-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.BufferStatement Cert.KernelIdeal.S5x152x2x128 Cert.KernelIdeal.S5x152x1x128
  ∧ IdealRules.bf16_pair.Statement Cert.KernelIdeal.S5x152x2x128 Cert.KernelIdeal.S5x152x1x128
  ∧ IdealRules.bf16_pair.SelectZeroStatement Cert.KernelIdeal.S5x152x128
  ∧ IdealRules.bf16_pair.Statement Cert.KernelIdeal.S18x128 Cert.KernelIdeal.S9x128
  ∧ IdealRules.bf16_pair.Statement Cert.KernelIdeal.S1x9x2x128 Cert.KernelIdeal.S1x9x1x128
  ∧ IdealRules.bf16_pair.Statement Cert.KernelIdeal.S1x128x2x128 Cert.KernelIdeal.S1x128x1x128
  ∧ IdealRules.bf16_pair.Statement Cert.KernelIdeal.S256x128 Cert.KernelIdeal.S128x128
  ∧ IdealRules.bf16_pair.PackStatement Cert.KernelIdeal.S18x128
  ∧ IdealRules.bf16_pair.Statement Cert.KernelIdeal.S36x128 Cert.KernelIdeal.S18x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v135) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S7x14x18x640 : Shape := ⟨4, ![7, 14, 18, 640]⟩
abbrev S640 : Shape := ⟨1, ![640]⟩
abbrev S4x4x640x384 : Shape := ⟨4, ![4, 4, 640, 384]⟩
abbrev S384 : Shape := ⟨1, ![384]⟩
abbrev S1x640 : Shape := ⟨2, ![1, 640]⟩
abbrev S1x384 : Shape := ⟨2, ![1, 384]⟩
abbrev S7x14x2x36x384 : Shape := ⟨5, ![7, 14, 2, 36, 384]⟩
abbrev S1x14x18x640 : Shape := ⟨4, ![1, 14, 18, 640]⟩
abbrev S1x14x2x36x384 : Shape := ⟨5, ![1, 14, 2, 36, 384]⟩
abbrev S5x152x128 : Shape := ⟨3, ![5, 152, 128]⟩
abbrev S4x272x128 : Shape := ⟨3, ![4, 272, 128]⟩
abbrev S1x128 : Shape := ⟨2, ![1, 128]⟩
abbrev S1x1x18x128 : Shape := ⟨4, ![1, 1, 18, 128]⟩
abbrev S18x128 : Shape := ⟨2, ![18, 128]⟩
abbrev S9x128 : Shape := ⟨2, ![9, 128]⟩
abbrev S1x9x128 : Shape := ⟨3, ![1, 9, 128]⟩
abbrev S1x128x128 : Shape := ⟨3, ![1, 128, 128]⟩
abbrev S128x128 : Shape := ⟨2, ![128, 128]⟩
abbrev S256x128 : Shape := ⟨2, ![256, 128]⟩
abbrev S256x1280 : Shape := ⟨2, ![256, 1280]⟩
abbrev S1x1x640x128 : Shape := ⟨4, ![1, 1, 640, 128]⟩
abbrev S640x128 : Shape := ⟨2, ![640, 128]⟩
abbrev S1280x128 : Shape := ⟨2, ![1280, 128]⟩
abbrev S1280x512 : Shape := ⟨2, ![1280, 512]⟩
abbrev S256x512 : Shape := ⟨2, ![256, 512]⟩
abbrev S1x256x128 : Shape := ⟨3, ![1, 256, 128]⟩
abbrev S1x18x128 : Shape := ⟨3, ![1, 18, 128]⟩
abbrev S36x128 : Shape := ⟨2, ![36, 128]⟩
abbrev S1x1x1x36x128 : Shape := ⟨5, ![1, 1, 1, 36, 128]⟩

abbrev nBuf : Space → Nat
  | .hbm => 9
  | .vmem => 10
  | .smem => 0
  | _ => 0

abbrev bufTy : (tb : Table) → Fin (tcTables nBuf tb) → BufTy
  | .hbm, ⟨0, _⟩ => ⟨S7x14x18x640, .fp8e4m3⟩
  | .hbm, ⟨1, _⟩ => ⟨S640, .f32⟩
  | .hbm, ⟨2, _⟩ => ⟨S4x4x640x384, .fp8e4m3⟩
  | .hbm, ⟨3, _⟩ => ⟨S384, .f32⟩
  | .hbm, ⟨4, _⟩ => ⟨S384, .f32⟩
  | .hbm, ⟨5, _⟩ => ⟨S1x640, .f32⟩
  | .hbm, ⟨6, _⟩ => ⟨S1x384, .f32⟩
  | .hbm, ⟨7, _⟩ => ⟨S1x384, .f32⟩
  | .hbm, ⟨8, _⟩ => ⟨S7x14x2x36x384, .bf16⟩
  | .local _ .vmem, ⟨0, _⟩ => ⟨S1x14x18x640, .fp8e4m3⟩
  | .local _ .vmem, ⟨1, _⟩ => ⟨S1x14x18x640, .fp8e4m3⟩
  | .local _ .vmem, ⟨2, _⟩ => ⟨S1x640, .f32⟩
  | .local _ .vmem, ⟨3, _⟩ => ⟨S4x4x640x384, .fp8e4m3⟩
  | .local _ .vmem, ⟨4, _⟩ => ⟨S1x384, .f32⟩
  | .local _ .vmem, ⟨5, _⟩ => ⟨S1x384, .f32⟩
  | .local _ .vmem, ⟨6, _⟩ => ⟨S1x14x2x36x384, .bf16⟩
  | .local _ .vmem, ⟨7, _⟩ => ⟨S1x14x2x36x384, .bf16⟩
  | .local _ .vmem, ⟨8, _⟩ => ⟨S5x152x128, .i32⟩
  | .local _ .vmem, ⟨9, _⟩ => ⟨S4x272x128, .f32⟩
  | _, _ => ⟨S7x14x18x640, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [BitOps F]

abbrev grid0 : Pipeline.Grid := ⟨1, ![7], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 2 → Memref sig .tc .vmem S1x14x18x640 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x640 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x4x640x384 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x14x2x36x384 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
abbrev S5x152x2x128 : Shape := ⟨4, ![5, 152, 2, 128]⟩
abbrev S5x152x1x128 : Shape := ⟨4, ![5, 152, 1, 128]⟩
abbrev S1x9x2x128 : Shape := ⟨4, ![1, 9, 2, 128]⟩
abbrev S1x9x1x128 : Shape := ⟨4, ![1, 9, 1, 128]⟩
abbrev S1x128x2x128 : Shape := ⟨4, ![1, 128, 2, 128]⟩
abbrev S1x128x1x128 : Shape := ⟨4, ![1, 128, 1, 128]⟩
  | .local _ .vmem, ⟨8, _⟩ => ⟨S5x152x2x128, .bf16⟩
variable {F : FTy → Type} [FloatOps F]
-- ==== ReferenceIdeal.lean ====
abbrev S7x14x18x640 : Shape := ⟨4, ![7, 14, 18, 640]⟩
abbrev S640 : Shape := ⟨1, ![640]⟩
abbrev S4x4x640x384 : Shape := ⟨4, ![4, 4, 640, 384]⟩
abbrev S384 : Shape := ⟨1, ![384]⟩
abbrev S1x1x1x640 : Shape := ⟨4, ![1, 1, 1, 640]⟩
abbrev S2x2x640x384 : Shape := ⟨4, ![2, 2, 640, 384]⟩
abbrev S_ : Shape := ⟨0, ![]⟩
abbrev S7x15x19x640 : Shape := ⟨4, ![7, 15, 19, 640]⟩
abbrev S7x14x18x384 : Shape := ⟨4, ![7, 14, 18, 384]⟩
abbrev S1x1x640x384 : Shape := ⟨4, ![1, 1, 640, 384]⟩
abbrev S640x384 : Shape := ⟨2, ![640, 384]⟩
abbrev S1x1x1x384 : Shape := ⟨4, ![1, 1, 1, 384]⟩
abbrev S7x14x18x1x384 : Shape := ⟨5, ![7, 14, 18, 1, 384]⟩
abbrev S7x14x18x2x384 : Shape := ⟨5, ![7, 14, 18, 2, 384]⟩
abbrev S7x14x1x18x2x384 : Shape := ⟨6, ![7, 14, 1, 18, 2, 384]⟩
abbrev S7x14x2x18x2x384 : Shape := ⟨6, ![7, 14, 2, 18, 2, 384]⟩
abbrev S7x14x2x36x384 : Shape := ⟨5, ![7, 14, 2, 36, 384]⟩

abbrev nBuf : Space → Nat
  | .hbm => 154
  | .vmem => 5
  | .smem => 0
  | _ => 0

abbrev hbmTy0_0 (i : Nat) : BufTy := match i % 128 with
  | 0 => ⟨S7x14x18x640, .fp8e4m3⟩
  | 1 => ⟨S640, .f32⟩
  | 2 => ⟨S4x4x640x384, .fp8e4m3⟩
  | 3 => ⟨S384, .f32⟩
  | 4 => ⟨S384, .f32⟩
  | 5 => ⟨S1x1x1x640, .f32⟩
  | 6 => ⟨S7x14x18x640, .bf16⟩
  | 7 => ⟨S4x4x640x384, .bf16⟩
  | 8 => ⟨S2x2x640x384, .bf16⟩
  | 9 => ⟨S2x2x640x384, .bf16⟩
  | 10 => ⟨S_, .i32⟩
  | 11 => ⟨S_, .bf16⟩
  | 12 => ⟨S7x15x19x640, .bf16⟩
  | 13 => ⟨S_, .f32⟩
  | 14 => ⟨S7x14x18x384, .f32⟩
  | 15 => ⟨S7x14x18x640, .bf16⟩
  | 16 => ⟨S1x1x640x384, .bf16⟩
  | 17 => ⟨S640x384, .bf16⟩
  | 18 => ⟨S7x14x18x384, .f32⟩
  | 19 => ⟨S7x14x18x384, .f32⟩
  | 20 => ⟨S7x14x18x640, .bf16⟩
  | 21 => ⟨S1x1x640x384, .bf16⟩
  | 22 => ⟨S640x384, .bf16⟩
  | 23 => ⟨S7x14x18x384, .f32⟩
  | 24 => ⟨S7x14x18x384, .f32⟩
  | 25 => ⟨S7x14x18x640, .bf16⟩
  | 26 => ⟨S1x1x640x384, .bf16⟩
  | 27 => ⟨S640x384, .bf16⟩
  | 28 => ⟨S7x14x18x384, .f32⟩
  | 29 => ⟨S7x14x18x384, .f32⟩
  | 30 => ⟨S7x14x18x640, .bf16⟩
  | 31 => ⟨S1x1x640x384, .bf16⟩
  | 32 => ⟨S640x384, .bf16⟩
  | 33 => ⟨S7x14x18x384, .f32⟩
  | 34 => ⟨S7x14x18x384, .f32⟩
  | 35 => ⟨S1x1x1x384, .f32⟩
  | 36 => ⟨S7x14x18x384, .f32⟩
  | 37 => ⟨S7x14x18x384, .f32⟩
  | 38 => ⟨S1x1x1x384, .f32⟩
  | 39 => ⟨S7x14x18x384, .f32⟩
  | 40 => ⟨S7x14x18x384, .f32⟩
  | 41 => ⟨S7x14x18x384, .bf16⟩
  | 42 => ⟨S2x2x640x384, .bf16⟩
  | 43 => ⟨S2x2x640x384, .bf16⟩
  | 44 => ⟨S_, .i32⟩
  | 45 => ⟨S_, .bf16⟩
  | 46 => ⟨S7x15x19x640, .bf16⟩
  | 47 => ⟨S_, .f32⟩
  | 48 => ⟨S7x14x18x384, .f32⟩
  | 49 => ⟨S7x14x18x640, .bf16⟩
  | 50 => ⟨S1x1x640x384, .bf16⟩
  | 51 => ⟨S640x384, .bf16⟩
  | 52 => ⟨S7x14x18x384, .f32⟩
  | 53 => ⟨S7x14x18x384, .f32⟩
  | 54 => ⟨S7x14x18x640, .bf16⟩
  | 55 => ⟨S1x1x640x384, .bf16⟩
  | 56 => ⟨S640x384, .bf16⟩
  | 57 => ⟨S7x14x18x384, .f32⟩
  | 58 => ⟨S7x14x18x384, .f32⟩
  | 59 => ⟨S7x14x18x640, .bf16⟩
  | 60 => ⟨S1x1x640x384, .bf16⟩
  | 61 => ⟨S640x384, .bf16⟩
  | 62 => ⟨S7x14x18x384, .f32⟩
  | 63 => ⟨S7x14x18x384, .f32⟩
  | 64 => ⟨S7x14x18x640, .bf16⟩
  | 65 => ⟨S1x1x640x384, .bf16⟩
  | 66 => ⟨S640x384, .bf16⟩
  | 67 => ⟨S7x14x18x384, .f32⟩
  | 68 => ⟨S7x14x18x384, .f32⟩
  | 69 => ⟨S1x1x1x384, .f32⟩
  | 70 => ⟨S7x14x18x384, .f32⟩
  | 71 => ⟨S7x14x18x384, .f32⟩
  | 72 => ⟨S1x1x1x384, .f32⟩
  | 73 => ⟨S7x14x18x384, .f32⟩
  | 74 => ⟨S7x14x18x384, .f32⟩
  | 75 => ⟨S7x14x18x384, .bf16⟩
  | 76 => ⟨S7x14x18x1x384, .bf16⟩
  | 77 => ⟨S7x14x18x1x384, .bf16⟩
  | 78 => ⟨S7x14x18x2x384, .bf16⟩
  | 79 => ⟨S2x2x640x384, .bf16⟩
  | 80 => ⟨S2x2x640x384, .bf16⟩
  | 81 => ⟨S_, .i32⟩
  | 82 => ⟨S_, .bf16⟩
  | 83 => ⟨S7x15x19x640, .bf16⟩
  | 84 => ⟨S_, .f32⟩
  | 85 => ⟨S7x14x18x384, .f32⟩
  | 86 => ⟨S7x14x18x640, .bf16⟩
  | 87 => ⟨S1x1x640x384, .bf16⟩
  | 88 => ⟨S640x384, .bf16⟩
  | 89 => ⟨S7x14x18x384, .f32⟩
  | 90 => ⟨S7x14x18x384, .f32⟩
  | 91 => ⟨S7x14x18x640, .bf16⟩
  | 92 => ⟨S1x1x640x384, .bf16⟩
  | 93 => ⟨S640x384, .bf16⟩
  | 94 => ⟨S7x14x18x384, .f32⟩
  | 95 => ⟨S7x14x18x384, .f32⟩
  | 96 => ⟨S7x14x18x640, .bf16⟩
  | 97 => ⟨S1x1x640x384, .bf16⟩
  | 98 => ⟨S640x384, .bf16⟩
  | 99 => ⟨S7x14x18x384, .f32⟩
  | 100 => ⟨S7x14x18x384, .f32⟩
  | 101 => ⟨S7x14x18x640, .bf16⟩
  | 102 => ⟨S1x1x640x384, .bf16⟩
  | 103 => ⟨S640x384, .bf16⟩
  | 104 => ⟨S7x14x18x384, .f32⟩
  | 105 => ⟨S7x14x18x384, .f32⟩
  | 106 => ⟨S1x1x1x384, .f32⟩
  | 107 => ⟨S7x14x18x384, .f32⟩
  | 108 => ⟨S7x14x18x384, .f32⟩
  | 109 => ⟨S1x1x1x384, .f32⟩
  | 110 => ⟨S7x14x18x384, .f32⟩
  | 111 => ⟨S7x14x18x384, .f32⟩
  | 112 => ⟨S7x14x18x384, .bf16⟩
  | 113 => ⟨S2x2x640x384, .bf16⟩
  | 114 => ⟨S2x2x640x384, .bf16⟩
  | 115 => ⟨S_, .i32⟩
  | 116 => ⟨S_, .bf16⟩
  | 117 => ⟨S7x15x19x640, .bf16⟩
  | 118 => ⟨S_, .f32⟩
  | 119 => ⟨S7x14x18x384, .f32⟩
  | 120 => ⟨S7x14x18x640, .bf16⟩
  | 121 => ⟨S1x1x640x384, .bf16⟩
  | 122 => ⟨S640x384, .bf16⟩
  | 123 => ⟨S7x14x18x384, .f32⟩
  | 124 => ⟨S7x14x18x384, .f32⟩
  | 125 => ⟨S7x14x18x640, .bf16⟩
  | 126 => ⟨S1x1x640x384, .bf16⟩
  | 127 => ⟨S640x384, .bf16⟩
  | _ => ⟨S7x14x18x640, .fp8e4m3⟩

abbrev hbmTy0_1 (i : Nat) : BufTy := match i % 128 with
  | 0 => ⟨S7x14x18x384, .f32⟩
  | 1 => ⟨S7x14x18x384, .f32⟩
  | 2 => ⟨S7x14x18x640, .bf16⟩
  | 3 => ⟨S1x1x640x384, .bf16⟩
  | 4 => ⟨S640x384, .bf16⟩
  | 5 => ⟨S7x14x18x384, .f32⟩
  | 6 => ⟨S7x14x18x384, .f32⟩
  | 7 => ⟨S7x14x18x640, .bf16⟩
  | 8 => ⟨S1x1x640x384, .bf16⟩
  | 9 => ⟨S640x384, .bf16⟩
  | 10 => ⟨S7x14x18x384, .f32⟩
  | 11 => ⟨S7x14x18x384, .f32⟩
  | 12 => ⟨S1x1x1x384, .f32⟩
  | 13 => ⟨S7x14x18x384, .f32⟩
  | 14 => ⟨S7x14x18x384, .f32⟩
  | 15 => ⟨S1x1x1x384, .f32⟩
  | 16 => ⟨S7x14x18x384, .f32⟩
  | 17 => ⟨S7x14x18x384, .f32⟩
  | 18 => ⟨S7x14x18x384, .bf16⟩
  | 19 => ⟨S7x14x18x1x384, .bf16⟩
  | 20 => ⟨S7x14x18x1x384, .bf16⟩
  | 21 => ⟨S7x14x18x2x384, .bf16⟩
  | 22 => ⟨S7x14x1x18x2x384, .bf16⟩
  | 23 => ⟨S7x14x1x18x2x384, .bf16⟩
  | 24 => ⟨S7x14x2x18x2x384, .bf16⟩
  | 25 => ⟨S7x14x2x36x384, .bf16⟩
  | _ => ⟨S7x14x18x640, .fp8e4m3⟩

abbrev hbmTy (i : Nat) : BufTy := match i / 128 with
  | 0 => hbmTy0_0 i
  | 1 => hbmTy0_1 i
  | _ => ⟨S7x14x18x640, .fp8e4m3⟩

abbrev bufTy : (tb : Table) → Fin (tcTables nBuf tb) → BufTy
  | .hbm, ⟨i, _⟩ => hbmTy i
  | .local _ .vmem, ⟨0, _⟩ => ⟨S7x14x18x640, .fp8e4m3⟩
  | .local _ .vmem, ⟨1, _⟩ => ⟨S1x1x1x640, .f32⟩
  | .local _ .vmem, ⟨2, _⟩ => ⟨S4x4x640x384, .fp8e4m3⟩
  | .local _ .vmem, ⟨3, _⟩ => ⟨S7x14x18x640, .bf16⟩
  | .local _ .vmem, ⟨4, _⟩ => ⟨S4x4x640x384, .bf16⟩
  | _, _ => ⟨S7x14x18x640, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_v0 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_c_0 : Ref sig .tc := ⟨.hbm, 44, rfl⟩
abbrev main_call1_v0 : Ref sig .tc := ⟨.hbm, 45, rfl⟩
abbrev main_v35 : Ref sig .tc := ⟨.hbm, 46, rfl⟩
abbrev main_cst_1 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_c_2 : Ref sig .tc := ⟨.hbm, 81, rfl⟩
abbrev main_call2_v0 : Ref sig .tc := ⟨.hbm, 82, rfl⟩
abbrev main_v69 : Ref sig .tc := ⟨.hbm, 83, rfl⟩
abbrev main_cst_3 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_c_4 : Ref sig .tc := ⟨.hbm, 115, rfl⟩
abbrev main_call3_v0 : Ref sig .tc := ⟨.hbm, 116, rfl⟩
abbrev main_v100 : Ref sig .tc := ⟨.hbm, 117, rfl⟩
abbrev main_cst_5 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_v133 : Ref sig .tc := ⟨.hbm, 151, rfl⟩
abbrev main_v134 : Ref sig .tc := ⟨.hbm, 152, rfl⟩
abbrev main_v135 : Ref sig .tc := ⟨.hbm, 153, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S7x14x18x640 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1x1x640 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x4x640x384 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S7x14x18x640 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x4x640x384 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Preserves.lean ====
/- The rewriting of the packed scratch and of the packed stores is licensed: one statement of the rule per shape. -/
module

public import proofs.«01_k».proof.Defs
public import Idealize.ShloMosaic.Lib.Bf16Pair
public import Idealize.ShloMosaic.Lib.Bf16PairInverse

@[expose] public section

noncomputable section

namespace Cert.Proof

open Idealize.ShloMosaic

/-- Every statement the idealization of the kernel rests on holds. -/
theorem preserves : Cert.preserves_Kernel_KernelIdeal :=
  ⟨IdealRules.bf16_pair.bufferStatement _ _, IdealRules.bf16_pair.statement _ _, IdealRules.bf16_pair.selectZeroStatement _,
    IdealRules.bf16_pair.statement _ _, IdealRules.bf16_pair.statement _ _, IdealRules.bf16_pair.statement _ _,
    IdealRules.bf16_pair.statement _ _, IdealRules.bf16_pair.packStatement _, IdealRules.bf16_pair.statement _ _⟩

end Cert.Proof

end
-- ==== Proof.Mirror.lean ====
module

public import proofs.«01_k».proof.Proof.Gen.KernelIdeal.Frame

/-! The kernel body's loads and stores once more, as terms over loop counters.

The generated run lists every store of the unrolled body with a payload of its own. Here the same lists are written as loops: over the
lane block `t` and the row `m` for the scaled activations, over the row parity `py` and the output lane block `c` for the products, and
over `m` for the output. The lists are parametrised by how each buffer is read (`R1` … `R8`), because the first grid point and the later
ones read the carried scratch differently. -/

@[expose] public section

set_option maxRecDepth 16384

noncomputable section

namespace Cert.KernelIdeal.Body

open Idealize.ShloMosaic Idealize.SL.Sem Cert.KernelIdeal.Gen

variable {F : FTy → Type} [FloatOps F]

/-- How a buffer of shape `s` is read through a load rectangle. -/
abbrev Rd (F : FTy → Type) (s : Shape) (e : EltTy) := (r : Rect s) → r.shape.Idx → Elt F e

/-- The lane blocks of the activations, last first. -/
def ts : List (Fin 5) := [4, 3, 2, 1, 0]
/-- The image rows, last first. -/
def ms : List (Fin 14) := [13, 12, 11, 10, 9, 8, 7, 6, 5, 4, 3, 2, 1, 0]
/-- The row parity and output lane block of the six products, last first. -/
def pcs : List (Fin 2 × Fin 3) := [(1, 2), (1, 1), (1, 0), (0, 2), (0, 1), (0, 0)]

/-- Lanes `128 t …` of the scale row. -/
abbrev rScale (t : Fin 5) : Rect S1x640 :=
  Rect.unit ![0, 128 * t.val] S1x128.size (by intro a; fin_cases a <;> simp [Shape.size] <;> omega)
/-- Row `m`, lanes `128 t …`, of the image. -/
abbrev rX (t : Fin 5) (m : Fin 14) : Rect S1x14x18x640 :=
  Rect.unit ![0, m.val, 0, 128 * t.val] S1x1x18x128.size (by intro a; fin_cases a <;> simp [Shape.size] <;> omega)
/-- The nine row pairs of image row `m` in the scratch's lane block `t`. -/
abbrev rXs (t : Fin 5) (m : Fin 14) : Rect S5x152x2x128 :=
  Rect.unit ![t.val, 9 * (m.val + 1), 0, 0] S1x9x2x128.size (by intro a; fin_cases a <;> simp [Shape.size] <;> omega)
/-- The 128 row pairs from image row `d - 1` in lane block `t`. -/
abbrev rA (d : Fin 3) (t : Fin 5) : Rect S5x152x2x128 :=
  Rect.unit ![t.val, 9 * d.val, 0, 0] S1x128x2x128.size (by intro a; fin_cases a <;> simp [Shape.size] <;> omega)
/-- Kernel tap `(ky, kx)`, output lanes `128 c …`. -/
abbrev rW (ky kx : Fin 4) (c : Fin 3) : Rect S4x4x640x384 :=
  Rect.unit ![ky.val, kx.val, 0, 128 * c.val] S1x1x640x128.size (by intro a; fin_cases a <;> simp [Shape.size] <;> omega)
/-- Output lanes `128 c …` of a row vector. -/
abbrev rO (c : Fin 3) : Rect S1x384 :=
  Rect.unit ![0, 128 * c.val] S1x128.size (by intro a; fin_cases a <;> simp [Shape.size] <;> omega)
/-- Plane `j` of the product scratch. -/
abbrev rZ (j : Fin 4) : Rect S4x272x128 :=
  Rect.unit ![j.val, 8, 0] S1x256x128.size (by intro a; fin_cases a <;> simp [Shape.size] <;> omega)
/-- The 18 rows of image row `m` in plane `j`, moved by `s - 1`. -/
abbrev rZr (j : Fin 4) (m : Fin 14) (s : Fin 3) : Rect S4x272x128 :=
  Rect.unit ![j.val, 7 + 18 * m.val + s.val, 0] S1x18x128.size (by intro a; fin_cases a <;> simp [Shape.size] <;> omega)
/-- The output block of row `m`, parity `py`, lanes `128 c …`. -/
abbrev rY (m : Fin 14) (py : Fin 2) (c : Fin 3) : Rect S1x14x2x36x384 :=
  Rect.unit ![0, m.val, py.val, 0, 128 * c.val] S1x1x1x36x128.size (by intro a; fin_cases a <;> simp [Shape.size] <;> omega)

section xs
variable (R1 : Rd F S1x14x18x640 .fp8e4m3) (R2 : Rd F S1x640 .f32)

/-- The store of the scaled image row `m`, lane block `t`. -/
def xsPiece (t : Fin 5) (m : Fin 14) : View.Piece (Elt F) S5x152x2x128 .bf16 := ⟨rXs t m, k0_pay4 (R2 (rScale t)) (R1 (rX t m))⟩

/-- The 70 stores of scaled rows, over the list `B` of those before. -/
def xsL (B : List (View.Piece (Elt F) S5x152x2x128 .bf16)) : List (View.Piece (Elt F) S5x152x2x128 .bf16) :=
  (ts.flatMap fun t => ms.map fun m => xsPiece R1 R2 t m) ++ B

end xs

section z
variable (R3 : Rd F S4x4x640x384 .fp8e4m3) (R7 : Rd F S5x152x2x128 .bf16)

/-- Image rows `d - 1 …` in lane block `t` as a matrix of 256 rows. -/
def aBlk (d : Fin 3) (t : Fin 5) : FVec F S256x128 .bf16 := k0_pay127 (R7 (rA d t))

/-- The left factor: ten blocks side by side. -/
def aMat (py : Fin 2) : FVec F S256x1280 .bf16 :=
  k0_pay131 (aBlk R7 py.castSucc 0) (aBlk R7 py.castSucc 1) (aBlk R7 py.castSucc 2) (aBlk R7 py.castSucc 3)
    (R7 (rA py.castSucc 4)) (R7 (rA py.succ 0)) (R7 (rA py.succ 1)) (R7 (rA py.succ 2)) (R7 (rA py.succ 3)) (R7 (rA py.succ 4))

/-- The kernel row tap `i` of parity `py` reads. -/
def ky (py i : Fin 2) : Fin 4 := ⟨3 - py.val - 2 * i.val, by omega⟩

/-- The product of parity `py` and output lanes `c`: four column planes of 128 lanes. -/
def zMat (py : Fin 2) (c : Fin 3) : FVec F S256x512 .f32 :=
  k0_pay133 (aMat R7 py) (k0_pay132 (R3 (rW (ky py 0) 3 c))) (R3 (rW (ky py 1) 3 c)) (R3 (rW (ky py 0) 0 c)) (R3 (rW (ky py 1) 0 c))
    (R3 (rW (ky py 0) 1 c)) (R3 (rW (ky py 1) 1 c)) (R3 (rW (ky py 0) 2 c)) (R3 (rW (ky py 1) 2 c))

theorem slices_z (j : Fin 4) : S256x512.Slices ![0, 128 * j.val] S256x128 := by
  fin_cases j <;> decide

/-- Column plane `j` of a product, as stored. -/
def zPlane (Z : FVec F S256x512 .f32) (j : Fin 4) : FVec F S1x256x128 .f32 :=
  shapeCast S1x256x128 (extractStridedSlice S256x128 ![0, 128 * j.val] Z (slices_z j)) shapeCasts_S256x128_S1x256x128

/-- The four stores of one product, last first. -/
def zFour (py : Fin 2) (c : Fin 3) : List (View.Piece (Elt F) S4x272x128 .f32) :=
  [⟨rZ 3, zPlane (zMat R3 R7 py c) 3⟩, ⟨rZ 2, zPlane (zMat R3 R7 py c) 2⟩, ⟨rZ 1, zPlane (zMat R3 R7 py c) 1⟩,
   ⟨rZ 0, zPlane (zMat R3 R7 py c) 0⟩]

variable (B : List (View.Piece (Elt F) S4x272x128 .f32))

/-- The stores of the first `n` products, over those before. -/
def zLs : ℕ → List (View.Piece (Elt F) S4x272x128 .f32)
  | 0 => B
  | n + 1 => zFour R3 R7 ⟨n / 3 % 2, Nat.mod_lt _ (by decide)⟩ ⟨n % 3, Nat.mod_lt _ (by decide)⟩ ++ zLs n

/-- The stores of the products up to and including that of parity `py` and output lanes `c`. -/
abbrev zL (py : Fin 2) (c : Fin 3) : List (View.Piece (Elt F) S4x272x128 .f32) := zLs R3 R7 B (3 * py.val + c.val + 1)

end z

section out
variable (R4 R5 : Rd F S1x384 .f32) (L8 : Fin 2 → Fin 3 → List (View.Piece (Elt F) S4x272x128 .f32))
variable (Q0 Q : List (View.Piece (Elt F) S4x272x128 .f32) → Rd F S4x272x128 .f32)

/-- How the left neighbours of row `m` are read: at the first row through `Q0`. -/
def Ql (m : Fin 14) : List (View.Piece (Elt F) S4x272x128 .f32) → Rd F S4x272x128 .f32 := if m.val = 0 then Q0 else Q

/-- The output block computed from one row of scales, one of biases, and the four plane reads. -/
def outPay (v718 v720 : Vec F S1x128 .f32) (zl zr z2 z3 : Vec F S1x18x128 .f32) : FVec F S1x1x1x36x128 .bf16 :=
  k0_pay144 (k0_pay139 v718) (k0_pay140 v720) (k0_pay141 (iota .tc S18x128 32 [0] iota_S18x128_d0_w32) zr)
    (k0_pay142 (iota .tc S18x128 32 [0] iota_S18x128_d0_w32) v718 zl z2) (k0_pay143 v720) z3

/-- The store of the output block of row `m`, parity `py`, lanes `128 c …`. -/
def outPiece (py : Fin 2) (c : Fin 3) (m : Fin 14) : View.Piece (Elt F) S1x14x2x36x384 .bf16 :=
  ⟨rY m py c, outPay (R4 (rO c)) (R5 (rO c)) (Ql Q0 Q m (L8 py c) (rZr 0 m 0)) (Q (L8 py c) (rZr 1 m 2)) (Q (L8 py c) (rZr 2 m 1))
    (Q (L8 py c) (rZr 3 m 1))⟩

/-- The 84 output stores. -/
def outL : List (View.Piece (Elt F) S1x14x2x36x384 .bf16) := pcs.flatMap fun pc => ms.map fun m => outPiece R4 R5 L8 Q0 Q pc.1 pc.2 m

end out

end Cert.KernelIdeal.Body

end
-- ==== Proof.Payloads.lean ====
module

public import proofs.«01_k».proof.Proof.Mirror
public import Idealize.ShloMosaic.Lib.Pointwise

/-! The kernel's stored payloads at the ideal instance, read at one index. -/

@[expose] public section

set_option maxRecDepth 16384

noncomputable section

namespace Cert.KernelIdeal.Body

open Idealize.ShloMosaic Idealize.SL.Sem Cert.KernelIdeal.Gen Idealize.ShloMosaic.Pointwise

/-- A scaled row pair: the code times the scale of its lane. -/
theorem pay4_apply (v3 : Vec Ideal S1x128 .f32) (v6 : Vec Ideal S1x1x18x128 .fp8e4m3) (w : Fin 9) (p : Fin 2) (l : Fin 128) :
    k0_pay4 v3 v6 (ix4 0 w p l) = (v6 (ix4 0 0 ⟨2 * w.val + p.val, by omega⟩ l) * v3 (ix2 0 l) : EReal) := by
  pointwise [k0_pay4, k0_pay3]
  fin_cases p <;> simp

/-- A block of row pairs as a matrix: row `r` is row `r % 2` of pair `r / 2`. -/
theorem pay127_apply (raw : Vec Ideal S1x128x2x128 .bf16) (r : Fin 256) (l : Fin 128) :
    k0_pay127 raw (ix2 r l) = raw (ix4 0 ⟨r.val / 2, by omega⟩ ⟨r.val % 2, by omega⟩ l) := by
  pointwise [k0_pay127]
  rcases Nat.mod_two_eq_zero_or_one r.val with h | h <;> simp [h]

/-- A stored plane is 128 columns of the product. -/
theorem zPlane_apply (Z : FVec Ideal S256x512 .f32) (j : Fin 4) (r : Fin 256) (l : Fin 128) :
    zPlane Z j (ix3 0 r l) = Z (ix2 r ⟨128 * j.val + l.val, by omega⟩) := by
  pointwise [zPlane]

/-- A choice by the equality of two small numbers, as a choice of numbers. -/
theorem select_ofNat (a b : ℕ) (ha : a < 2 ^ 32) (hb : b < 2 ^ 32) (x y : EReal) :
    Scalar.select (IntOp.cmpi .eq (BitVec.ofNat 32 a) (BitVec.ofNat 32 b)) x y = if a = b then x else y := by
  by_cases h : a = b
  · subst h; simp [IntOp.cmpi, Scalar.select]
  · have hne : ¬ BitVec.ofNat 32 a = BitVec.ofNat 32 b := fun e => h (by
      have := congrArg BitVec.toNat e
      rwa [BitVec.toNat_ofNat, BitVec.toNat_ofNat, Nat.mod_eq_of_lt ha, Nat.mod_eq_of_lt hb] at this)
    have hb' : (BitVec.ofNat 32 a == BitVec.ofNat 32 b) = false := beq_eq_false_iff_ne.mpr hne
    simp only [IntOp.cmpi, Scalar.select, hb', if_neg h]
    rfl

/-- The output block: at even columns the left neighbour and the own column of planes 0 and 2, at odd columns the right neighbour and
    the own column of planes 1 and 3, scaled and biased. -/
theorem outPay_apply (v718 v720 : Vec Ideal S1x128 .f32) (zl zr z2 z3 : Vec Ideal S1x18x128 .f32) (w : Fin 36) (l : Fin 128) :
    outPay v718 v720 zl zr z2 z3 (ix5 0 0 0 w l) =
      if w.val % 2 = 0 then
        (((if w.val / 2 = 0 then 0 else zl (ix3 0 ⟨w.val / 2, by omega⟩ l)) + z2 (ix3 0 ⟨w.val / 2, by omega⟩ l)) * v718 (ix2 0 l)
          + v720 (ix2 0 l) : EReal)
      else
        (((if w.val / 2 = 17 then 0 else zr (ix3 0 ⟨w.val / 2, by omega⟩ l)) + z3 (ix3 0 ⟨w.val / 2, by omega⟩ l)) * v718 (ix2 0 l)
          + v720 (ix2 0 l) : EReal) := by
  pointwise [outPay, k0_pay144, k0_pay139, k0_pay140, k0_pay141, k0_pay142, k0_pay143]
  have hw : w.val / 2 < 2 ^ 32 := by have := w.isLt; omega
  rw [show (0#32) = BitVec.ofNat 32 0 from rfl, show (17#32) = BitVec.ofNat 32 17 from rfl, select_ofNat _ _ hw (by decide),
    select_ofNat _ _ hw (by decide)]

/-- Ten blocks side by side, read at column `k`: block `(k / 640, k % 640 / 128)` at column `k % 128`. -/
theorem concat10_apply (B : Fin 2 → Fin 5 → FVec Ideal S256x128 .bf16) (h) (r : Fin 256) (k : Fin 1280) :
    concatenate S256x1280 1 [⟨S256x128, B 0 0⟩, ⟨S256x128, B 0 1⟩, ⟨S256x128, B 0 2⟩, ⟨S256x128, B 0 3⟩, ⟨S256x128, B 0 4⟩,
      ⟨S256x128, B 1 0⟩, ⟨S256x128, B 1 1⟩, ⟨S256x128, B 1 2⟩, ⟨S256x128, B 1 3⟩, ⟨S256x128, B 1 4⟩] h (ix2 r k)
      = B ⟨k.val / 640, by omega⟩ ⟨k.val % 640 / 128, by omega⟩ (ix2 r ⟨k.val % 128, by omega⟩) := by
  have key : ∀ (xs : List ((s : Shape) × (s.Idx → EReal)))
      (_ : xs = List.ofFn fun n : Fin 10 => (⟨S256x128, B ⟨n.val / 5, by omega⟩ ⟨n.val % 5, by omega⟩⟩ : (s : Shape) × (s.Idx → EReal)))
      (h : Shape.Concatenates (xs.map (·.1)) S256x1280 1),
      concatenate S256x1280 1 xs h (ix2 r k) = B ⟨k.val / 128 / 5, by omega⟩ ⟨k.val / 128 % 5, by omega⟩ (ix2 r ⟨k.val % 128, by omega⟩) := by
    rintro _ rfl h
    refine Idealize.ShloMosaic.concatenate_ofFn_apply (t := S256x1280) (s₁ := S256x128) (1 : Fin 2) (N := 10)
      (fun n => B ⟨n.val / 5, by omega⟩ ⟨n.val % 5, by omega⟩) h rfl 128 rfl
      (ix2 r k) ⟨k.val / 128, by omega⟩ rfl (ix2 r ⟨k.val % 128, by omega⟩) rfl fun b hb => ?_
    match b with
    | ⟨0, _⟩ => rfl
    | ⟨1, _⟩ => exact absurd rfl hb
  refine (key _ (by rfl) h).trans (congrFun (congrArg₂ B (Fin.ext ?_) (Fin.ext ?_)) _)
  · show k.val / 128 / 5 = k.val / 640; omega
  · show k.val / 128 % 5 = k.val % 640 / 128; omega

/-- The left factor read at column `k`. -/
theorem aMat_apply (R7 : Rd Ideal S5x152x2x128 .bf16) (py : Fin 2) (r : Fin 256) (k : Fin 1280) :
    aMat R7 py (ix2 r k) = aBlk R7 (if k.val / 640 = 0 then py.castSucc else py.succ) ⟨k.val % 640 / 128, by omega⟩
      (ix2 r ⟨k.val % 128, by omega⟩) :=
  concat10_apply (fun i t => aBlk R7 (if i.val = 0 then py.castSucc else py.succ) t) concatenates_S256x128_S256x128_S256x128_S256x128_S256x128_S256x128_S256x128_S256x128_S256x128_S256x128_S256x1280_d1 r k

/-- The column of kernel taps in plane `j`. -/
def kx : Fin 4 → Fin 4 := ![3, 0, 1, 2]

/-- Four blocks of 128 lanes, read at lane `128 j + l`. -/
theorem pick4 (W : Fin 4 → Fin 128 → EReal) (j : Fin 4) (l : Fin 128) :
    (if h : 128 * j.val + l.val < 128 then W 0 ⟨128 * j.val + l.val, h⟩
      else if h : 128 * j.val + l.val - 128 < 128 then W 1 ⟨128 * j.val + l.val - 128, h⟩
        else if h : 128 * j.val + l.val - 128 - 128 < 128 then W 2 ⟨128 * j.val + l.val - 128 - 128, h⟩
          else W 3 ⟨128 * j.val + l.val - 128 - 128 - 128, by omega⟩) = W j l := by
  split_ifs
  · exact congrArg₂ W (Fin.ext (by show 0 = j.val; omega)) (Fin.ext (by show 128 * j.val + l.val = l.val; omega))
  · exact congrArg₂ W (Fin.ext (by show 1 = j.val; omega)) (Fin.ext (by show 128 * j.val + l.val - 128 = l.val; omega))
  · exact congrArg₂ W (Fin.ext (by show 2 = j.val; omega)) (Fin.ext (by show 128 * j.val + l.val - 128 - 128 = l.val; omega))
  · exact congrArg₂ W (Fin.ext (by show 3 = j.val; omega)) (Fin.ext (by show 128 * j.val + l.val - 128 - 128 - 128 = l.val; omega))

/-- The product read at row `r`, plane `j`: two sums over the channels, one per row tap. -/
theorem zMat_apply (R3 : Rd Ideal S4x4x640x384 .fp8e4m3) (R7 : Rd Ideal S5x152x2x128 .bf16) (py : Fin 2) (c : Fin 3) (r : Fin 256)
    (j : Fin 4) (l : Fin 128) :
    zMat R3 R7 py c (ix2 r ⟨128 * j.val + l.val, by omega⟩) =
      ((∑ k : Fin 640, aMat R7 py (ix2 r ⟨k.val, by omega⟩) * R3 (rW (ky py 0) (kx j) c) (ix4 0 0 k l))
        + ∑ k : Fin 640, aMat R7 py (ix2 r ⟨640 + k.val, by omega⟩) * R3 (rW (ky py 1) (kx j) c) (ix4 0 0 k l) : EReal) := by
  unfold zMat
  generalize aMat R7 py = A
  pointwise [k0_pay133, k0_pay132]
  have hl := l.isLt
  exact congrArg₂ (· + ·)
    (Finset.sum_congr rfl fun x _ => congrArg (A _ * ·) (pick4 (fun j l => R3 (rW (ky py 0) (kx j) c) (ix4 0 0 x l)) j l))
    (Finset.sum_congr rfl fun x _ => congrArg (A _ * ·) (pick4 (fun j l => R3 (rW (ky py 1) (kx j) c) (ix4 0 0 x l)) j l))

end Cert.KernelIdeal.Body

end
-- ==== Proof.MirrorB.lean ====
module

public import proofs.«01_k».proof.Proof.Mirror

/-! At a grid point after the first the generated run's stores are the loop-shaped lists of `Proof.Mirror`. -/

@[expose] public section

set_option maxRecDepth 16384

noncomputable section

namespace Cert.KernelIdeal.Body

open Idealize.ShloMosaic Idealize.SL.Sem Cert.KernelIdeal.Gen Idealize.ShloMosaic.Tactic

variable {F : FTy → Type} [FloatOps F]

/-- A buffer's contents `f` read through its view. -/
abbrev rdAt {s : Shape} {e : EltTy} (M : Memref sig .tc .vmem s e) (f : M.view.ty.Contents (Elt F)) : Rd F s e :=
  fun r => M.view.readAt (Elt F) r.toLoadRect f

/-- A buffer read after the stores `L` over contents `f`. -/
abbrev rdW {s : Shape} {e : EltTy} (M : Memref sig .tc .vmem s e) (f : M.view.ty.Contents (Elt F)) (L : List (View.Piece (Elt F) s e)) :
    Rd F s e := rdAt M (M.view.writes (Elt F) f L)

/-- A buffer read after stores that cover what is read. -/
abbrev rdC {s : Shape} {e : EltTy} (M : Memref sig .tc .vmem s e) (L : List (View.Piece (Elt F) s e)) : Rd F s e :=
  fun r => M.view.readCov L r.toLoadRect

variable (c : Dev nD) (i : grid0.Coords)
  (arg1 : Memref sig .tc .vmem S1x14x18x640 .fp8e4m3) (harg1 : arg1.IsWhole) (arg2 : Memref sig .tc .vmem S1x640 .f32) (harg2 : arg2.IsWhole)
  (arg3 : Memref sig .tc .vmem S4x4x640x384 .fp8e4m3) (harg3 : arg3.IsWhole) (arg4 : Memref sig .tc .vmem S1x384 .f32) (harg4 : arg4.IsWhole)
  (arg5 : Memref sig .tc .vmem S1x384 .f32) (harg5 : arg5.IsWhole) (arg6 : Memref sig .tc .vmem S1x14x2x36x384 .bf16) (harg6 : arg6.IsWhole)
  (arg7 : Memref sig .tc .vmem S5x152x2x128 .bf16) (harg7 : arg7.IsWhole) (arg8 : Memref sig .tc .vmem S4x272x128 .f32) (harg8 : arg8.IsWhole)
  (x0 : Vec F S1x14x18x640 .fp8e4m3) (x1 : Vec F S1x640 .f32) (x2 : Vec F S4x4x640x384 .fp8e4m3) (x3 : Vec F S1x384 .f32)
  (x4 : Vec F S1x384 .f32) (xs0 : Vec F S5x152x2x128 .bf16) (xs1 : Vec F S4x272x128 .f32)

/-- The stores into the activation scratch. -/
theorem xsB (hc0 : ¬cond0_0 i) :
    (kernelRun0_B c i arg1 harg1 arg2 harg2 arg3 harg3 arg4 harg4 arg5 harg5 arg6 harg6 arg7 harg7 arg8 harg8 hc0 x0 x1 x2 x3 x4 xs0 xs1).2.1
      = xsL (rdAt arg1 (harg1.unread x0)) (rdAt arg2 (harg2.unread x1)) [] := by
  sl_kernel_rfl

/-- The output stores. -/
theorem outB (hc0 : ¬cond0_0 i) :
    (kernelRun0_B c i arg1 harg1 arg2 harg2 arg3 harg3 arg4 harg4 arg5 harg5 arg6 harg6 arg7 harg7 arg8 harg8 hc0 x0 x1 x2 x3 x4 xs0 xs1).1
      = outL (rdAt arg4 (harg4.unread x3)) (rdAt arg5 (harg5.unread x4))
          (zL (rdAt arg3 (harg3.unread x2))
            (rdW arg7 (harg7.unread xs0) (xsL (rdAt arg1 (harg1.unread x0)) (rdAt arg2 (harg2.unread x1)) [])) [])
          (rdW arg8 (harg8.unread xs1)) (rdC arg8) := by
  sl_kernel_rfl

end Cert.KernelIdeal.Body

end
-- ==== Proof.MirrorA.lean ====
module

public import proofs.«01_k».proof.Proof.MirrorB

/-! At the first grid point the generated run's stores are the loop-shaped lists of `Proof.Mirror`. -/

@[expose] public section

set_option maxRecDepth 16384

noncomputable section

namespace Cert.KernelIdeal.Body

open Idealize.ShloMosaic Idealize.SL.Sem Cert.KernelIdeal.Gen Idealize.ShloMosaic.Tactic

variable {F : FTy → Type} [FloatOps F]

variable (c : Dev nD) (i : grid0.Coords)
  (arg1 : Memref sig .tc .vmem S1x14x18x640 .fp8e4m3) (harg1 : arg1.IsWhole) (arg2 : Memref sig .tc .vmem S1x640 .f32) (harg2 : arg2.IsWhole)
  (arg3 : Memref sig .tc .vmem S4x4x640x384 .fp8e4m3) (harg3 : arg3.IsWhole) (arg4 : Memref sig .tc .vmem S1x384 .f32) (harg4 : arg4.IsWhole)
  (arg5 : Memref sig .tc .vmem S1x384 .f32) (harg5 : arg5.IsWhole) (arg6 : Memref sig .tc .vmem S1x14x2x36x384 .bf16) (harg6 : arg6.IsWhole)
  (arg7 : Memref sig .tc .vmem S5x152x2x128 .bf16) (harg7 : arg7.IsWhole) (arg8 : Memref sig .tc .vmem S4x272x128 .f32) (harg8 : arg8.IsWhole)
  (x0 : Vec F S1x14x18x640 .fp8e4m3) (x1 : Vec F S1x640 .f32) (x2 : Vec F S4x4x640x384 .fp8e4m3) (x3 : Vec F S1x384 .f32)
  (x4 : Vec F S1x384 .f32)

/-- The zero fill of the activation scratch. -/
abbrev fill7 : List (View.Piece (Elt F) S5x152x2x128 .bf16) :=
  [⟨Rect.unit ![0, 0, 0, 0] S5x152x2x128.size (by intro a; fin_cases a <;> simp [Shape.size]), constant S5x152x2x128 .bf16 0x0000#16⟩]

/-- The zero fill of the product scratch. -/
abbrev fill8 : List (View.Piece (Elt F) S4x272x128 .f32) :=
  [⟨Rect.unit ![0, 0, 0] S4x272x128.size (by intro a; fin_cases a <;> simp [Shape.size]), k0_pay2⟩]

/-- The stores into the activation scratch. -/
theorem xsA (hc0 : cond0_0 i) :
    (kernelRun0_A c i arg1 harg1 arg2 harg2 arg3 harg3 arg4 harg4 arg5 harg5 arg6 harg6 arg7 harg7 arg8 harg8 hc0 x0 x1 x2 x3 x4).2.1
      = xsL (rdAt arg1 (harg1.unread x0)) (rdAt arg2 (harg2.unread x1)) fill7 := by
  sl_kernel_rfl

/-- The output stores. -/
theorem outA (hc0 : cond0_0 i) :
    (kernelRun0_A c i arg1 harg1 arg2 harg2 arg3 harg3 arg4 harg4 arg5 harg5 arg6 harg6 arg7 harg7 arg8 harg8 hc0 x0 x1 x2 x3 x4).1
      = outL (rdAt arg4 (harg4.unread x3)) (rdAt arg5 (harg5.unread x4))
          (zL (rdAt arg3 (harg3.unread x2)) (rdC arg7 (xsL (rdAt arg1 (harg1.unread x0)) (rdAt arg2 (harg2.unread x1)) fill7)) fill8)
          (rdC arg8) (rdC arg8) := by
  sl_kernel_rfl

end Cert.KernelIdeal.Body

end
-- ==== Proof.Spec.lean ====
module

public import proofs.«01_k».proof.Proof.Payloads
public import proofs.«01_k».proof.Proof.MirrorA

/-! What the kernel body computes at the ideal instance, in closed form, and the two scratch buffers read against it. -/

@[expose] public section

set_option maxRecDepth 16384

noncomputable section

namespace Cert.KernelIdeal.Body

open Idealize.ShloMosaic Idealize.SL.Sem Cert.KernelIdeal.Gen Idealize.ShloMosaic.Pointwise

/-- An array read through a rectangle. -/
def ofArr {s : Shape} {e : EltTy} (x : s.Idx → Elt Ideal e) : Rd Ideal s e := fun r z => x (r.emb z)

/-- A buffer known to hold an array is read as the array. -/
theorem rdAt_unread {s : Shape} {e : EltTy} (M : Memref sig .tc .vmem s e) (h : M.IsWhole) (x : s.Idx → Elt Ideal e) :
    rdAt M (h.unread x) = ofArr x := by
  funext r z
  show M.view.read (Elt Ideal) (h.unread x) (r.toLoadRect.idx z) = x (r.emb z)
  rw [h.read_unread]
  rfl

/-- The scaled image with one row and one column of zeros around it: image row `R - 1`, column `q - 1`, channel `k`. -/
def padx (x0 : Vec Ideal S1x14x18x640 .fp8e4m3) (x1 : Vec Ideal S1x640 .f32) (R q k : ℕ) : EReal :=
  if h : ((1 ≤ R ∧ R ≤ 14) ∧ (1 ≤ q ∧ q ≤ 18)) ∧ k < 640 then
    x0 (ix4 0 ⟨R - 1, by omega⟩ ⟨q - 1, by omega⟩ ⟨k, h.2⟩) * x1 (ix2 0 ⟨k, h.2⟩) else 0

/-- What the activation scratch holds: row pairs of the padded image's inner columns, by lane block. -/
def xsG (x0 : Vec Ideal S1x14x18x640 .fp8e4m3) (x1 : Vec Ideal S1x640 .f32) : S5x152x2x128.Idx → EReal := fun y =>
  padx x0 x1 ((y 1).val / 9) ((y 1).val % 9 * 2 + (y 2).val + 1) (128 * (y 0).val + (y 3).val)

/-- The padded image's channels at row `R`, column `q`, against kernel tap `(a, b)`, output lane `o`. -/
def tap (x0 : Vec Ideal S1x14x18x640 .fp8e4m3) (x1 : Vec Ideal S1x640 .f32) (x2 : Vec Ideal S4x4x640x384 .fp8e4m3) (R q : ℕ)
    (a b : Fin 4) (o : Fin 384) : EReal :=
  ∑ k : Fin 640, padx x0 x1 R q k.val * x2 (ix4 a b k o)

/-- Two row taps added: what the product scratch holds at row `r` of plane `j`. -/
def zS (x0 : Vec Ideal S1x14x18x640 .fp8e4m3) (x1 : Vec Ideal S1x640 .f32) (x2 : Vec Ideal S4x4x640x384 .fp8e4m3) (py : Fin 2) (r : ℕ)
    (j : Fin 4) (o : Fin 384) : EReal :=
  tap x0 x1 x2 (py.val + r / 18) (r % 18 + 1) (ky py 0) (kx j) o + tap x0 x1 x2 (py.val + 1 + r / 18) (r % 18 + 1) (ky py 1) (kx j) o

/-- Lane `l` of the lane block `c`. -/
abbrev lane (c : Fin 3) (l : Fin 128) : Fin 384 := ⟨128 * c.val + l.val, by omega⟩

variable (x0 : Vec Ideal S1x14x18x640 .fp8e4m3) (x1 : Vec Ideal S1x640 .f32) (x2 : Vec Ideal S4x4x640x384 .fp8e4m3)

/-- Each store of a scaled row puts the padded image there. -/
theorem xsPiece_agrees (t : Fin 5) (m : Fin 14) (x : (rXs t m).shape.Idx) :
    (xsPiece (ofArr x0) (ofArr x1) t m).2 x = xsG x0 x1 ((xsPiece (F := Ideal) (ofArr x0) (ofArr x1) t m).1.emb x) := by
  obtain ⟨w, p, l, rfl⟩ : ∃ (w : Fin 9) (p : Fin 2) (l : Fin 128), x = ix4 0 w p l :=
    ⟨x 1, x 2, x 3, (eq_ix4 x).trans (congrArg (fun z => ix4 z (x 1) (x 2) (x 3)) (Subsingleton.elim (α := Fin 1) (x 0) 0))⟩
  have h0 : ((rXs t m).emb (ix4 0 w p l) 0).val = t.val := by simp
  have h1 : ((rXs t m).emb (ix4 0 w p l) 1).val = 9 * (m.val + 1) + w.val := by simp
  have h2 : ((rXs t m).emb (ix4 0 w p l) 2).val = p.val := by simp
  have h3 : ((rXs t m).emb (ix4 0 w p l) 3).val = l.val := by simp
  refine (pay4_apply _ _ w p l).trans ?_
  show _ = padx x0 x1 (((rXs t m).emb (ix4 0 w p l) 1).val / 9)
    (((rXs t m).emb (ix4 0 w p l) 1).val % 9 * 2 + ((rXs t m).emb (ix4 0 w p l) 2).val + 1)
    (128 * ((rXs t m).emb (ix4 0 w p l) 0).val + ((rXs t m).emb (ix4 0 w p l) 3).val)
  rw [h0, h1, h2, h3, padx, dif_pos (by omega)]
  refine congrArg₂ (· * ·) (congrArg x0 ?_) (congrArg x1 ?_)
  · refine ((rX t m).emb_eq_of_coords _ _ ?_)
    intro a; fin_cases a <;> simp <;> omega
  · refine ((rScale t).emb_eq_of_coords _ _ ?_)
    intro a; fin_cases a <;> simp

/-- A place of the activation scratch under no store of a scaled row is a pad row. -/
theorem xsG_outside (y : S5x152x2x128.Idx) (hy : (y 1).val < 9 ∨ 135 ≤ (y 1).val) : xsG x0 x1 y = 0 := by
  rw [xsG, padx, dif_neg (by omega)]

/-- After the stores of the scaled rows over `B` the scratch reads as the padded image, if its pad rows read as zero before. -/
theorem xsL_read (v : View sig .tc .vmem S5x152x2x128 .bf16) (f : v.ty.Contents (Elt Ideal))
    (B : List (View.Piece (Elt Ideal) S5x152x2x128 .bf16))
    (hB : ∀ y : S5x152x2x128.Idx, (y 1).val < 9 ∨ 135 ≤ (y 1).val → v.read (Elt Ideal) (v.writes (Elt Ideal) f B) y = (0 : EReal))
    (y : S5x152x2x128.Idx) :
    v.read (Elt Ideal) (v.writes (Elt Ideal) f (xsL (ofArr x0) (ofArr x1) B)) y = xsG x0 x1 y := by
  rw [xsL, View.writes_append]
  set L : List (View.Piece (Elt Ideal) S5x152x2x128 .bf16) := ts.flatMap fun t => ms.map fun m => xsPiece (ofArr x0) (ofArr x1) t m with hL
  have hmem : ∀ p ∈ L, ∃ t m, p = xsPiece (ofArr x0) (ofArr x1) t m := by
    intro p hp
    obtain ⟨t, -, ht⟩ := List.mem_flatMap.mp hp
    obtain ⟨m, -, rfl⟩ := List.mem_map.mp ht
    exact ⟨t, m, rfl⟩
  by_cases hy : (y 1).val < 9 ∨ 135 ≤ (y 1).val
  · rw [View.read_writes_apply_of_forall_not_mem, hB y hy, xsG_outside x0 x1 y hy]
    intro p hp
    obtain ⟨t, m, rfl⟩ := hmem p hp
    exact (rXs t m).not_mem_set_of_axis y 1 (9 * (m.val + 1)) 9 rfl rfl rfl (by omega)
  · refine View.read_writes_apply_of_pieces v _ (xsG x0 x1) L (fun p hp x => ?_) y ?_
    · obtain ⟨t, m, rfl⟩ := hmem p hp
      exact xsPiece_agrees x0 x1 t m x
    · have h0 : (y 0).val < 5 := (y 0).isLt
      have h2 : (y 2).val < 2 := (y 2).isLt
      have h3 : (y 3).val < 128 := (y 3).isLt
      refine ⟨xsPiece (ofArr x0) (ofArr x1) ⟨(y 0).val, h0⟩ ⟨(y 1).val / 9 - 1, by omega⟩, ?_, ?_⟩
      · refine List.mem_flatMap.mpr ⟨⟨(y 0).val, h0⟩, ?_, List.mem_map.mpr ⟨_, ?_, rfl⟩⟩
        · generalize (⟨(y 0).val, h0⟩ : Fin 5) = t; revert t; decide
        · generalize (⟨(y 1).val / 9 - 1, _⟩ : Fin 14) = t; revert t; decide
      · show y ∈ (rXs ⟨(y 0).val, h0⟩ ⟨(y 1).val / 9 - 1, by omega⟩).set
        rw [Rect.mem_set_unit]
        intro a
        fin_cases a <;> simp [Shape.size] <;> omega

/-- The block of rows the kernel multiplies, read from the padded image. -/
theorem aBlk_apply (d : Fin 3) (t : Fin 5) (r : Fin 256) (l : Fin 128) :
    aBlk (ofArr (e := .bf16) (xsG x0 x1)) d t (ix2 r l) = padx x0 x1 (d.val + r.val / 18) (r.val % 18 + 1) (128 * t.val + l.val) := by
  refine (pay127_apply _ r l).trans ?_
  have h0 : ((rA d t).emb (ix4 0 ⟨r.val / 2, by omega⟩ ⟨r.val % 2, by omega⟩ l) 0).val = t.val := by simp
  have h1 : ((rA d t).emb (ix4 0 ⟨r.val / 2, by omega⟩ ⟨r.val % 2, by omega⟩ l) 1).val = 9 * d.val + r.val / 2 := by simp
  have h2 : ((rA d t).emb (ix4 0 ⟨r.val / 2, by omega⟩ ⟨r.val % 2, by omega⟩ l) 2).val = r.val % 2 := by simp
  have h3 : ((rA d t).emb (ix4 0 ⟨r.val / 2, by omega⟩ ⟨r.val % 2, by omega⟩ l) 3).val = l.val := by simp
  show padx x0 x1 (((rA d t).emb (ix4 0 ⟨r.val / 2, by omega⟩ ⟨r.val % 2, by omega⟩ l) 1).val / 9)
    (((rA d t).emb (ix4 0 ⟨r.val / 2, by omega⟩ ⟨r.val % 2, by omega⟩ l) 1).val % 9 * 2
      + ((rA d t).emb (ix4 0 ⟨r.val / 2, by omega⟩ ⟨r.val % 2, by omega⟩ l) 2).val + 1)
    (128 * ((rA d t).emb (ix4 0 ⟨r.val / 2, by omega⟩ ⟨r.val % 2, by omega⟩ l) 0).val
      + ((rA d t).emb (ix4 0 ⟨r.val / 2, by omega⟩ ⟨r.val % 2, by omega⟩ l) 3).val) = _
  rw [h0, h1, h2, h3]
  congr 1 <;> omega

/-- The product at row `r`, plane `j`, lane `l`. -/
theorem zMat_spec (py : Fin 2) (c : Fin 3) (r : Fin 256) (j : Fin 4) (l : Fin 128) :
    zMat (ofArr x2) (ofArr (e := .bf16) (xsG x0 x1)) py c (ix2 r ⟨128 * j.val + l.val, by omega⟩)
      = zS x0 x1 x2 py r.val j (lane c l) := by
  have hw : ∀ (a b : Fin 4) (k : Fin 640), ofArr (e := .fp8e4m3) x2 (rW a b c) (ix4 0 0 k l) = x2 (ix4 a b k (lane c l)) := by
    intro a b k
    refine congrArg x2 ((rW a b c).emb_eq_of_coords _ _ ?_)
    intro a; fin_cases a <;> simp
  rw [zMat_apply]
  refine congrArg₂ (· + ·) (Finset.sum_congr rfl fun k _ => ?_) (Finset.sum_congr rfl fun k _ => ?_)
  · rw [hw, aMat_apply, if_pos (by show k.val / 640 = 0; omega), aBlk_apply]
    refine congrArg₂ (· * ·) (congrArg (padx x0 x1 _ _) ?_) rfl
    show 128 * (k.val % 640 / 128) + k.val % 128 = k.val
    omega
  · rw [hw, aMat_apply, if_neg (by show ¬(640 + k.val) / 640 = 0; omega), aBlk_apply]
    refine congrArg₂ (· * ·) (congrArg (padx x0 x1 _ _) ?_) rfl
    show 128 * ((640 + k.val) % 640 / 128) + (640 + k.val) % 128 = k.val
    omega

/-- The product scratch after the stores of the product `(py, c)`, whatever it held before. -/
theorem zL_read (v : View sig .tc .vmem S4x272x128 .f32) (f : v.ty.Contents (Elt Ideal))
    (B : List (View.Piece (Elt Ideal) S4x272x128 .f32)) (py : Fin 2) (c : Fin 3) (j : Fin 4) (r : Fin 256) (l : Fin 128)
    (y : S4x272x128.Idx) (h0 : (y 0).val = j.val) (h1 : (y 1).val = 8 + r.val) (h2 : (y 2).val = l.val) :
    v.read (Elt Ideal) (v.writes (Elt Ideal) f (zL (ofArr x2) (ofArr (e := .bf16) (xsG x0 x1)) B py c)) y
      = zS x0 x1 x2 py r.val j (lane c l) := by
  have hs : zL (ofArr x2) (ofArr (e := .bf16) (xsG x0 x1)) B py c
      = zFour (ofArr x2) (ofArr (e := .bf16) (xsG x0 x1)) py c ++ zLs (ofArr x2) (ofArr (e := .bf16) (xsG x0 x1)) B (3 * py.val + c.val) := by
    show zFour _ _ _ _ ++ _ = _
    rw [show (⟨(3 * py.val + c.val) / 3 % 2, Nat.mod_lt _ (by decide)⟩ : Fin 2) = py from Fin.ext (by show (3 * py.val + c.val) / 3 % 2 = py.val; omega),
      show (⟨(3 * py.val + c.val) % 3, Nat.mod_lt _ (by decide)⟩ : Fin 3) = c from Fin.ext (by show (3 * py.val + c.val) % 3 = c.val; omega)]
  rw [hs]
  generalize zLs _ _ B _ = L
  have hit : ∀ (j' : Fin 4) (L : List (View.Piece (Elt Ideal) S4x272x128 .f32)), j'.val = j.val →
      v.read (Elt Ideal) (v.writes (Elt Ideal) f (⟨rZ j', zPlane (zMat (ofArr x2) (ofArr (e := .bf16) (xsG x0 x1)) py c) j'⟩ :: L)) y
        = zS x0 x1 x2 py r.val j (lane c l) := by
    intro j' L hj
    obtain rfl : j' = j := Fin.ext hj
    rw [View.read_writes_cons_hit_of_coords v f (rZ j') _ L (ix3 0 r l) y (by
      intro a; fin_cases a <;> simp [h0, h1, h2]), zPlane_apply, zMat_spec]
  have miss : ∀ (j' : Fin 4) (w) (L : List (View.Piece (Elt Ideal) S4x272x128 .f32)), j'.val ≠ j.val →
      v.read (Elt Ideal) (v.writes (Elt Ideal) f (⟨rZ j', w⟩ :: L)) y = v.read (Elt Ideal) (v.writes (Elt Ideal) f L) y :=
    fun j' w L hj => View.read_writes_cons_miss_of_axis v f _ L y 0 j'.val 1 rfl rfl rfl (by omega)
  simp only [zFour, List.cons_append, List.nil_append]
  by_cases j3 : (3 : Fin 4).val = j.val
  · exact hit 3 _ j3
  rw [miss 3 _ _ j3]
  by_cases j2 : (2 : Fin 4).val = j.val
  · exact hit 2 _ j2
  rw [miss 2 _ _ j2]
  by_cases j1 : (1 : Fin 4).val = j.val
  · exact hit 1 _ j1
  rw [miss 1 _ _ j1]
  exact hit 0 _ (by simp at j1 j2 j3; omega)

end Cert.KernelIdeal.Body

end
-- ==== Proof.Body.lean ====
module

public import proofs.«01_k».proof.Proof.Spec

/-! The output block of one grid point in closed form, and the two kinds of grid point against it. -/

@[expose] public section

set_option maxRecDepth 16384

noncomputable section

namespace Cert.KernelIdeal.Body

open Idealize.ShloMosaic Idealize.SL.Sem Cert.KernelIdeal.Gen Idealize.ShloMosaic.Pointwise

section spec
variable (x0 : Vec Ideal S1x14x18x640 .fp8e4m3) (x1 : Vec Ideal S1x640 .f32) (x2 : Vec Ideal S4x4x640x384 .fp8e4m3)
  (x3 x4 : Vec Ideal S1x384 .f32)

/-- The output at row `m`, row parity `py`, column `w`, lane `o`: four taps, scaled and biased. -/
def yS (m : Fin 14) (py : Fin 2) (w : Fin 36) (o : Fin 384) : EReal :=
  if w.val % 2 = 0 then
    ((tap x0 x1 x2 (py.val + m.val) (w.val / 2) (ky py 0) 3 o + tap x0 x1 x2 (py.val + 1 + m.val) (w.val / 2) (ky py 1) 3 o)
      + (tap x0 x1 x2 (py.val + m.val) (w.val / 2 + 1) (ky py 0) 1 o + tap x0 x1 x2 (py.val + 1 + m.val) (w.val / 2 + 1) (ky py 1) 1 o))
      * x3 (ix2 0 o) + x4 (ix2 0 o)
  else
    ((tap x0 x1 x2 (py.val + m.val) (w.val / 2 + 2) (ky py 0) 0 o + tap x0 x1 x2 (py.val + 1 + m.val) (w.val / 2 + 2) (ky py 1) 0 o)
      + (tap x0 x1 x2 (py.val + m.val) (w.val / 2 + 1) (ky py 0) 2 o + tap x0 x1 x2 (py.val + 1 + m.val) (w.val / 2 + 1) (ky py 1) 2 o))
      * x3 (ix2 0 o) + x4 (ix2 0 o)

/-- The output block of one grid point. -/
def Y : S1x14x2x36x384.Idx → EReal := fun y => yS x0 x1 x2 x3 x4 (y 1) (y 2) (y 3) (y 4)

/-- A tap in a pad column is zero. -/
theorem tap_pad (R q : ℕ) (a b : Fin 4) (o : Fin 384) (hq : q = 0 ∨ 19 ≤ q) : tap x0 x1 x2 R q a b o = 0 := by
  refine Finset.sum_eq_zero fun k _ => ?_
  rw [padx, dif_neg (by omega), zero_mul]

/-- A plane row `18 m + q` as taps. -/
theorem zS_row (py : Fin 2) (m q : ℕ) (hq : q < 18) (j : Fin 4) (o : Fin 384) :
    zS x0 x1 x2 py (18 * m + q) j o
      = tap x0 x1 x2 (py.val + m) (q + 1) (ky py 0) (kx j) o + tap x0 x1 x2 (py.val + 1 + m) (q + 1) (ky py 1) (kx j) o := by
  rw [zS, show (18 * m + q) / 18 = m by omega, show (18 * m + q) % 18 = q by omega]

variable (L8 : Fin 2 → Fin 3 → List (View.Piece (Elt Ideal) S4x272x128 .f32))
  (Q0 Q : List (View.Piece (Elt Ideal) S4x272x128 .f32) → Rd Ideal S4x272x128 .f32)

/-- The product scratch read through `Q`, at the rows the product wrote, is the closed form. -/
def ZRead : Prop := ∀ (py : Fin 2) (c : Fin 3) (j : Fin 4) (m : Fin 14) (s : Fin 3) (q : Fin 18) (l : Fin 128) (r : ℕ),
  18 * m.val + s.val + q.val = r + 1 → r < 256 → Q (L8 py c) (rZr j m s) (ix3 0 q l) = zS x0 x1 x2 py r j (lane c l)

/-- Each output store puts the closed form there. -/
theorem outPiece_agrees (hQ0 : ZRead x0 x1 x2 L8 Q0) (hQ : ZRead x0 x1 x2 L8 Q) (py : Fin 2) (c : Fin 3) (m : Fin 14)
    (x : (rY m py c).shape.Idx) :
    (outPiece (ofArr x3) (ofArr x4) L8 Q0 Q py c m).2 x
      = Y x0 x1 x2 x3 x4 ((outPiece (F := Ideal) (ofArr x3) (ofArr x4) L8 Q0 Q py c m).1.emb x) := by
  have hQl : ZRead x0 x1 x2 L8 (Ql Q0 Q m) := by
    unfold Ql; split_ifs
    · exact hQ0
    · exact hQ
  obtain ⟨w, l, rfl⟩ : ∃ (w : Fin 36) (l : Fin 128), x = ix5 0 0 0 w l :=
    ⟨x 3, x 4, (eq_ix5 x).trans (congr (congr (congr (congr (congrArg ix5 (Subsingleton.elim (α := Fin 1) (x 0) 0))
      (Subsingleton.elim (α := Fin 1) (x 1) 0)) (Subsingleton.elim (α := Fin 1) (x 2) 0)) rfl) rfl)⟩
  have h1 : (rY m py c).emb (ix5 0 0 0 w l) 1 = m := Fin.ext (by simp)
  have h2 : (rY m py c).emb (ix5 0 0 0 w l) 2 = py := Fin.ext (by simp)
  have h3 : (rY m py c).emb (ix5 0 0 0 w l) 3 = w := Fin.ext (by simp)
  have h4 : (rY m py c).emb (ix5 0 0 0 w l) 4 = lane c l := Fin.ext (by simp)
  have e3 : ∀ x3 : Vec Ideal S1x384 .f32, ofArr (e := .f32) x3 (rO c) (ix2 0 l) = x3 (ix2 0 (lane c l)) := by
    intro x3
    refine congrArg x3 ((rO c).emb_eq_of_coords _ _ ?_)
    intro a; fin_cases a <;> simp
  refine (outPay_apply _ _ _ _ _ _ w l).trans ?_
  show _ = yS x0 x1 x2 x3 x4 ((rY m py c).emb (ix5 0 0 0 w l) 1) ((rY m py c).emb (ix5 0 0 0 w l) 2)
    ((rY m py c).emb (ix5 0 0 0 w l) 3) ((rY m py c).emb (ix5 0 0 0 w l) 4)
  rw [h1, h2, h3, h4, e3, e3, yS]
  have hw := w.isLt
  have hm := m.isLt
  refine if_congr Iff.rfl ?_ ?_
  · refine congrArg (fun z => z * x3 _ + x4 _) (congrArg₂ (· + ·) ?_ ?_)
    · by_cases hq : w.val / 2 = 0
      · rw [if_pos hq, hq, tap_pad _ _ _ _ _ _ _ _ (Or.inl rfl), tap_pad _ _ _ _ _ _ _ _ (Or.inl rfl), add_zero]
      · rw [if_neg hq, hQl py c 0 m 0 ⟨w.val / 2, by omega⟩ l (18 * m.val + (w.val / 2 - 1)) (by
          show 18 * m.val + 0 + w.val / 2 = _; omega) (by omega), zS_row _ _ _ _ _ _ (by omega),
          show w.val / 2 - 1 + 1 = w.val / 2 by omega]
        rfl
    · rw [hQ py c 2 m 1 ⟨w.val / 2, by omega⟩ l (18 * m.val + w.val / 2) (by
          show 18 * m.val + 1 + w.val / 2 = _; omega) (by omega), zS_row _ _ _ _ _ _ (by omega)]
      rfl
  · refine congrArg (fun z => z * x3 _ + x4 _) (congrArg₂ (· + ·) ?_ ?_)
    · by_cases hq : w.val / 2 = 17
      · rw [if_pos hq, hq, tap_pad _ _ _ _ _ _ _ _ (Or.inr (by omega)), tap_pad _ _ _ _ _ _ _ _ (Or.inr (by omega)), add_zero]
      · rw [if_neg hq, hQ py c 1 m 2 ⟨w.val / 2, by omega⟩ l (18 * m.val + (w.val / 2 + 1)) (by
          show 18 * m.val + 2 + w.val / 2 = _; omega) (by omega), zS_row _ _ _ _ _ _ (by omega)]
        rfl
    · rw [hQ py c 3 m 1 ⟨w.val / 2, by omega⟩ l (18 * m.val + w.val / 2) (by
          show 18 * m.val + 1 + w.val / 2 = _; omega) (by omega), zS_row _ _ _ _ _ _ (by omega)]
      rfl

/-- So the output stores read back as the closed form wherever they reach. -/
theorem outL_read (hQ0 : ZRead x0 x1 x2 L8 Q0) (hQ : ZRead x0 x1 x2 L8 Q) (v : View sig .tc .vmem S1x14x2x36x384 .bf16)
    (f : v.ty.Contents (Elt Ideal)) (y : S1x14x2x36x384.Idx)
    (hy : ∃ p ∈ outL (F := Ideal) (ofArr x3) (ofArr x4) L8 Q0 Q, y ∈ p.1.set) :
    v.read (Elt Ideal) (v.writes (Elt Ideal) f (outL (ofArr x3) (ofArr x4) L8 Q0 Q)) y = Y x0 x1 x2 x3 x4 y := by
  refine View.read_writes_apply_of_pieces v f (Y x0 x1 x2 x3 x4) _ (fun p hp x => ?_) y hy
  obtain ⟨⟨py, c⟩, -, h⟩ := List.mem_flatMap.mp hp
  obtain ⟨m, -, rfl⟩ := List.mem_map.mp h
  exact outPiece_agrees x0 x1 x2 x3 x4 L8 Q0 Q hQ0 hQ py c m x

/-- The product scratch read over any earlier contents. -/
theorem zRead_rdW (M : Memref sig .tc .vmem S4x272x128 .f32) (f : M.view.ty.Contents (Elt Ideal))
    (B : List (View.Piece (Elt Ideal) S4x272x128 .f32)) :
    ZRead x0 x1 x2 (zL (ofArr x2) (ofArr (e := .bf16) (xsG x0 x1)) B) (rdW M f) := by
  intro py c j m s q l r hr hr'
  exact zL_read x0 x1 x2 M.view f B py c j ⟨r, hr'⟩ l _ (by show j.val + 1 * 0 = _; omega)
    (by show 7 + 18 * m.val + s.val + 1 * q.val = 8 + r; omega) (by show 0 + 1 * l.val = _; omega)

/-- The same through the covered read. -/
theorem zRead_rdC (M : Memref sig .tc .vmem S4x272x128 .f32) (B : List (View.Piece (Elt Ideal) S4x272x128 .f32)) :
    ZRead x0 x1 x2 (zL (ofArr x2) (ofArr (e := .bf16) (xsG x0 x1)) B) (rdC M) :=
  zRead_rdW x0 x1 x2 M _ B

end spec

section points
variable (c : Dev nD) (i : grid0.Coords)
  (arg1 : Memref sig .tc .vmem S1x14x18x640 .fp8e4m3) (harg1 : arg1.IsWhole) (arg2 : Memref sig .tc .vmem S1x640 .f32) (harg2 : arg2.IsWhole)
  (arg3 : Memref sig .tc .vmem S4x4x640x384 .fp8e4m3) (harg3 : arg3.IsWhole) (arg4 : Memref sig .tc .vmem S1x384 .f32) (harg4 : arg4.IsWhole)
  (arg5 : Memref sig .tc .vmem S1x384 .f32) (harg5 : arg5.IsWhole) (arg6 : Memref sig .tc .vmem S1x14x2x36x384 .bf16) (harg6 : arg6.IsWhole)
  (arg7 : Memref sig .tc .vmem S5x152x2x128 .bf16) (harg7 : arg7.IsWhole) (arg8 : Memref sig .tc .vmem S4x272x128 .f32) (harg8 : arg8.IsWhole)
  (x0 : Vec Ideal S1x14x18x640 .fp8e4m3) (x1 : Vec Ideal S1x640 .f32) (x2 : Vec Ideal S4x4x640x384 .fp8e4m3) (x3 : Vec Ideal S1x384 .f32)
  (x4 : Vec Ideal S1x384 .f32) (xs0 : Vec Ideal S5x152x2x128 .bf16) (xs1 : Vec Ideal S4x272x128 .f32)

/-- The activation scratch has zero pad rows. -/
def Pads (xs : S5x152x2x128.Idx → EReal) : Prop := ∀ y : S5x152x2x128.Idx, (y 1).val < 9 ∨ 135 ≤ (y 1).val → xs y = 0

/-- The zero fill reads as zero. -/
theorem fill7_read (v : View sig .tc .vmem S5x152x2x128 .bf16) (f : v.ty.Contents (Elt Ideal)) (y : S5x152x2x128.Idx) :
    v.read (Elt Ideal) (v.writes (Elt Ideal) f fill7) y = (0 : EReal) := by
  refine (View.read_writes_cons_hit_of_coords v f _ _ [] y y (fun a => ?_)).trans ?_
  · fin_cases a <;> simp
  · pointwise []

/-- The activation scratch after the first point's stores. -/
theorem xsA_read (v : View sig .tc .vmem S5x152x2x128 .bf16) (f : v.ty.Contents (Elt Ideal)) (y : S5x152x2x128.Idx) :
    v.read (Elt Ideal) (v.writes (Elt Ideal) f (xsL (ofArr x0) (ofArr x1) fill7)) y = xsG x0 x1 y :=
  xsL_read x0 x1 v f fill7 (fun y _ => fill7_read v f y) y

/-- The activation scratch after a later point's stores, over contents with zero pad rows. -/
theorem xsB_read (h : Pads xs0) (y : S5x152x2x128.Idx) :
    arg7.view.read (Elt Ideal) (arg7.view.writes (Elt Ideal) (harg7.unread xs0) (xsL (ofArr x0) (ofArr x1) [])) y = xsG x0 x1 y :=
  xsL_read x0 x1 arg7.view _ [] (fun y hy => by
    rw [View.writes_nil, harg7.read_unread]; exact h y hy) y

/-- A first point's output block. -/
theorem out_A (hc0 : cond0_0 i) :
    out0_A_5 (F := Ideal) c i arg1 harg1 arg2 harg2 arg3 harg3 arg4 harg4 arg5 harg5 arg6 harg6 arg7 harg7 arg8 harg8 hc0 x0 x1 x2 x3 x4
      = Y x0 x1 x2 x3 x4 := by
  funext y
  have hcov := cover0_A_5 (F := Ideal) c i arg1 harg1 arg2 harg2 arg3 harg3 arg4 harg4 arg5 harg5 arg6 harg6 arg7 harg7 arg8 harg8 hc0 x0 x1 x2 x3 x4 y
  unfold out0_A_5
  have hR : rdC arg7 (xsL (ofArr x0) (ofArr x1) fill7) = ofArr (e := .bf16) (xsG x0 x1) := by
    funext r z
    exact xsA_read x0 x1 arg7.view _ _
  rw [outA] at hcov ⊢
  simp only [rdAt_unread, hR] at hcov ⊢
  exact outL_read x0 x1 x2 x3 x4 _ _ _ (zRead_rdC x0 x1 x2 arg8 _) (zRead_rdC x0 x1 x2 arg8 _) _ _ y hcov

/-- What a first point leaves in the activation scratch has zero pad rows. -/
theorem pads_A (hc0 : cond0_0 i) :
    Pads (sout0_A_0 (F := Ideal) c i arg1 harg1 arg2 harg2 arg3 harg3 arg4 harg4 arg5 harg5 arg6 harg6 arg7 harg7 arg8 harg8 hc0 x0 x1 x2 x3 x4) := by
  intro y hy
  unfold sout0_A_0
  rw [xsA]
  simp only [rdAt_unread]
  rw [xsA_read, xsG_outside _ _ _ hy]

/-- A later point's output block, over an activation scratch with zero pad rows. -/
theorem out_B (hc0 : ¬cond0_0 i) (h : Pads xs0) :
    out0_B_5 (F := Ideal) c i arg1 harg1 arg2 harg2 arg3 harg3 arg4 harg4 arg5 harg5 arg6 harg6 arg7 harg7 arg8 harg8 hc0 x0 x1 x2 x3 x4 xs0 xs1
      = Y x0 x1 x2 x3 x4 := by
  funext y
  have hcov := cover0_B_5 (F := Ideal) c i arg1 harg1 arg2 harg2 arg3 harg3 arg4 harg4 arg5 harg5 arg6 harg6 arg7 harg7 arg8 harg8 hc0 x0 x1 x2 x3 x4 xs0 xs1 y
  unfold out0_B_5
  have hR : rdW arg7 (harg7.unread xs0) (xsL (ofArr x0) (ofArr x1) []) = ofArr (e := .bf16) (xsG x0 x1) := by
    funext r z
    exact xsB_read arg7 harg7 x0 x1 xs0 h _
  rw [outB] at hcov ⊢
  simp only [rdAt_unread, hR] at hcov ⊢
  exact outL_read x0 x1 x2 x3 x4 _ _ _ (zRead_rdW x0 x1 x2 arg8 _ _) (zRead_rdC x0 x1 x2 arg8 _) _ _ y hcov

/-- What a later point leaves in the activation scratch has zero pad rows, if they were before. -/
theorem pads_B (hc0 : ¬cond0_0 i) (h : Pads xs0) :
    Pads (sout0_B_0 (F := Ideal) c i arg1 harg1 arg2 harg2 arg3 harg3 arg4 harg4 arg5 harg5 arg6 harg6 arg7 harg7 arg8 harg8 hc0 x0 x1 x2 x3 x4 xs0 xs1) := by
  intro y hy
  unfold sout0_B_0
  rw [xsB]
  simp only [rdAt_unread]
  rw [xsB_read _ _ _ _ _ h, xsG_outside _ _ _ hy]

end points

end Cert.KernelIdeal.Body

end
-- ==== Proof.KernelValue.lean ====
module

public import proofs.«01_k».proof.Proof.Body
public import proofs.«01_k».proof.Proof.Gen.KernelIdeal.Value

/-! The kernel's result array in closed form: every grid point's block is `Y` of the point's input blocks, and those are slices of the
arguments. -/

@[expose] public section

set_option maxRecDepth 16384

noncomputable section

namespace Cert.KernelIdeal.Body

open Idealize.ShloMosaic Idealize.ShloMosaic.TcCoe Idealize.SL.Sem Cert.KernelIdeal.Gen Idealize.ShloMosaic.Pointwise Cert.KernelIdeal.Value

variable (m : (ℓ : Loc nD τ sig) → Buf (Elt Ideal) ℓ)

/-- What the first grid point leaves: its output block in closed form, and an activation scratch with zero pad rows. -/
theorem outs_first (c : Dev nD) (t : Fin cfg0.N) (h0 : t.val % 7 = 0) :
    (outsAt0 m c t.val t.isLt).1 = Y (iblk m c 0 t) (iblk m c 1 t) (iblk m c 2 t) (iblk m c 3 t) (iblk m c 4 t)
      ∧ Pads (outsAt0 m c t.val t.isLt).2.1 := by
  rw [outsAt0_A m c t h0]
  dsimp only
  exact ⟨out_A _ _ _ _ _ _ _ _ _ _ _ _ _ _ _ _ _ _ _ _ _ _ _ _, pads_A _ _ _ _ _ _ _ _ _ _ _ _ _ _ _ _ _ _ _ _ _ _ _ _⟩

/-- The same of a later grid point, after a point that left zero pad rows. -/
theorem outs_later (c : Dev nD) (t : Fin cfg0.N) (h0 : ¬t.val % 7 = 0)
    (ih : Pads (outsAt0 m c (t.val - 1) (Nat.lt_of_le_of_lt (Nat.sub_le _ _) t.isLt)).2.1) :
    (outsAt0 m c t.val t.isLt).1 = Y (iblk m c 0 t) (iblk m c 1 t) (iblk m c 2 t) (iblk m c 3 t) (iblk m c 4 t)
      ∧ Pads (outsAt0 m c t.val t.isLt).2.1 := by
  rw [outsAt0_B m c t h0]
  dsimp only
  exact ⟨out_B _ _ _ _ _ _ _ _ _ _ _ _ _ _ _ _ _ _ _ _ _ _ _ _ _ _ ih, pads_B _ _ _ _ _ _ _ _ _ _ _ _ _ _ _ _ _ _ _ _ _ _ _ _ _ _ ih⟩

/-- What every grid point leaves. -/
theorem outs (c : Dev nD) : ∀ (n : ℕ) (hn : n < cfg0.N),
    (outsAt0 m c n hn).1 = Y (iblk m c 0 ⟨n, hn⟩) (iblk m c 1 ⟨n, hn⟩) (iblk m c 2 ⟨n, hn⟩) (iblk m c 3 ⟨n, hn⟩) (iblk m c 4 ⟨n, hn⟩)
      ∧ Pads (outsAt0 m c n hn).2.1
  | 0, hn => outs_first m c ⟨0, hn⟩ rfl
  | n + 1, hn => by
    have hN : cfg0.N = 7 := N_0
    exact outs_later m c ⟨n + 1, hn⟩ (by show ¬(n + 1) % 7 = 0; omega) (outs c n (Nat.lt_of_succ_lt hn)).2

/-- The first input's block index is the grid point, then zeros. -/
theorem idx0 : ∀ t : Fin cfg0.N, win0_0.index t (0 : Fin 4) = t.val ∧ win0_0.index t (1 : Fin 4) = 0 ∧ win0_0.index t (2 : Fin 4) = 0
    ∧ win0_0.index t (3 : Fin 4) = 0 :=
  (by decide +kernel : ∀ t : Fin grid0.N, _)

theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 4) = 0 ∧ win0_2.index t (1 : Fin 4) = 0 ∧ win0_2.index t (2 : Fin 4) = 0
    ∧ win0_2.index t (3 : Fin 4) = 0 := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx4 : ∀ t : Fin cfg0.N, win0_4.index t (0 : Fin 2) = 0 ∧ win0_4.index t (1 : Fin 2) = 0 := (by decide +kernel : ∀ t : Fin grid0.N, _)

/-- The image block of a point is the image of that number. -/
theorem blk0 (c : Dev nD) (t : Fin cfg0.N) (a : Fin 7) (ha : a.val = t.val) (h : Fin 14) (w : Fin 18) (k : Fin 640) :
    iblk m c 0 t (ix4 0 h w k) = m ((c : Thread nD τ).loc main_arg0) (ix4 a h w k) := by
  refine (congrFun (V_main_arg0 m c) _).trans (congrArg (m ((c : Thread nD τ).loc main_arg0)) ?_)
  obtain ⟨e0, e1, e2, e3⟩ := idx0 t
  funext b
  refine Fin.ext ?_
  match b with
  | ⟨0, _⟩ => show win0_0.index t (0 : Fin 4) * 1 + 1 * 0 = a.val; omega
  | ⟨1, _⟩ => show win0_0.index t (1 : Fin 4) * 14 + 1 * h.val = h.val; omega
  | ⟨2, _⟩ => show win0_0.index t (2 : Fin 4) * 18 + 1 * w.val = w.val; omega
  | ⟨3, _⟩ => show win0_0.index t (3 : Fin 4) * 640 + 1 * k.val = k.val; omega

/-- The scale block is the scales. -/
theorem blk1 (c : Dev nD) (t : Fin cfg0.N) (k : Fin 640) :
    iblk m c 1 t (ix2 0 k) = m ((c : Thread nD τ).loc main_arg1) (ix1 k) := by
  have e : V m c main_v0 = shapeCast S1x640 (m ((c : Thread nD τ).loc main_arg1)) shapeCasts_S640_S1x640 := by
    show StableHlo.after hostOps0 _ _ = _
    after_results
    rfl
  obtain ⟨e0, e1⟩ := idx1 t
  refine ((congrFun e _).trans (congrArg _ (funext fun b => Fin.ext ?_ : _ = ix2 0 k))).trans ?_
  · match b with
    | ⟨0, _⟩ => show win0_1.index t (0 : Fin 2) * 1 + 1 * 0 = 0; omega
    | ⟨1, _⟩ => show win0_1.index t (1 : Fin 2) * 640 + 1 * k.val = k.val; omega
  · pointwise []

/-- The weight block is the weights. -/
theorem blk2 (c : Dev nD) (t : Fin cfg0.N) (a b : Fin 4) (k : Fin 640) (o : Fin 384) :
    iblk m c 2 t (ix4 a b k o) = m ((c : Thread nD τ).loc main_arg2) (ix4 a b k o) := by
  refine (congrFun (V_main_arg2 m c) _).trans (congrArg (m ((c : Thread nD τ).loc main_arg2)) ?_)
  obtain ⟨e0, e1, e2, e3⟩ := idx2 t
  funext d
  refine Fin.ext ?_
  match d with
  | ⟨0, _⟩ => show win0_2.index t (0 : Fin 4) * 4 + 1 * a.val = a.val; omega
  | ⟨1, _⟩ => show win0_2.index t (1 : Fin 4) * 4 + 1 * b.val = b.val; omega
  | ⟨2, _⟩ => show win0_2.index t (2 : Fin 4) * 640 + 1 * k.val = k.val; omega
  | ⟨3, _⟩ => show win0_2.index t (3 : Fin 4) * 384 + 1 * o.val = o.val; omega

/-- The output scale block is the output scales. -/
theorem blk3 (c : Dev nD) (t : Fin cfg0.N) (o : Fin 384) :
    iblk m c 3 t (ix2 0 o) = m ((c : Thread nD τ).loc main_arg3) (ix1 o) := by
  have e : V m c main_v1 = shapeCast S1x384 (m ((c : Thread nD τ).loc main_arg3)) shapeCasts_S384_S1x384 := by
    show StableHlo.after hostOps0 _ _ = _
    after_results
    rfl
  obtain ⟨e0, e1⟩ := idx3 t
  refine ((congrFun e _).trans (congrArg _ (funext fun b => Fin.ext ?_ : _ = ix2 0 o))).trans ?_
  · match b with
    | ⟨0, _⟩ => show win0_3.index t (0 : Fin 2) * 1 + 1 * 0 = 0; omega
    | ⟨1, _⟩ => show win0_3.index t (1 : Fin 2) * 384 + 1 * o.val = o.val; omega
  · pointwise []

/-- The bias block is the biases. -/
theorem blk4 (c : Dev nD) (t : Fin cfg0.N) (o : Fin 384) :
    iblk m c 4 t (ix2 0 o) = m ((c : Thread nD τ).loc main_arg4) (ix1 o) := by
  have e : V m c main_v2 = shapeCast S1x384 (m ((c : Thread nD τ).loc main_arg4)) shapeCasts_S384_S1x384 := by
    show StableHlo.after hostOps0 _ _ = _
    after_results
    rfl
  obtain ⟨e0, e1⟩ := idx4 t
  refine ((congrFun e _).trans (congrArg _ (funext fun b => Fin.ext ?_ : _ = ix2 0 o))).trans ?_
  · match b with
    | ⟨0, _⟩ => show win0_4.index t (0 : Fin 2) * 1 + 1 * 0 = 0; omega
    | ⟨1, _⟩ => show win0_4.index t (1 : Fin 2) * 384 + 1 * o.val = o.val; omega
  · pointwise []

/-- Image `a` of the batch as a block. -/
def img (A0 : S7x14x18x640.Idx → EReal) (a : Fin 7) : S1x14x18x640.Idx → EReal := fun y => A0 (ix4 a (y 1) (y 2) (y 3))
/-- A vector as a one-row block. -/
def row640 (A : S640.Idx → EReal) : S1x640.Idx → EReal := fun y => A (ix1 (y 1))
/-- A vector as a one-row block. -/
def row384 (A : S384.Idx → EReal) : S1x384.Idx → EReal := fun y => A (ix1 (y 1))

/-- The result array as one function of the arguments. -/
def result (A0 : S7x14x18x640.Idx → EReal) (A1 : S640.Idx → EReal) (A2 : S4x4x640x384.Idx → EReal) (A3 A4 : S384.Idx → EReal) :
    S7x14x2x36x384.Idx → EReal := fun i =>
  yS (img A0 (i 0)) (row640 A1) A2 (row384 A3) (row384 A4) (i 1) (i 2) (i 3) (i 4)

/-- The kernel's result array is `result` of its arguments. -/
theorem G5_eq (c : Dev nD) : G5 m c = result (m ((c : Thread nD τ).loc main_arg0)) (m ((c : Thread nD τ).loc main_arg1))
    (m ((c : Thread nD τ).loc main_arg2)) (m ((c : Thread nD τ).loc main_arg3)) (m ((c : Thread nD τ).loc main_arg4)) := by
  funext i
  have hN : cfg0.N = 7 := N_0
  have h0 : (i 0).val < 7 := (i 0).isLt
  have h1 : (i 1).val < 14 := (i 1).isLt
  have h2 : (i 2).val < 2 := (i 2).isLt
  have h3 : (i 3).val < 36 := (i 3).isLt
  have h4 : (i 4).val < 384 := (i 4).isLt
  have hp : pt5Of i = (i 0).val := by
    show 1 * ((i 0).val / 1 - 0) + 1 * ((i 1).val / 14 - 0) + 1 * ((i 2).val / 2 - 0) + 1 * ((i 3).val / 36 - 0) + 1 * ((i 4).val / 384 - 0) = _
    omega
  have ht : (i 0).val < cfg0.N := by omega
  unfold G5
  rw [dif_pos (by rw [hp]; exact ht), fold0_congr m c (pt5Of i) _ (i 0).val (by omega) hp, ← outsAt0_sweep m c (i 0).val ht, (outs m c _ ht).1]
  have b0 : iblk m c 0 ⟨(i 0).val, ht⟩ = img (m ((c : Thread nD τ).loc main_arg0)) (i 0) := by
    funext y
    refine (congrArg (iblk m c 0 ⟨(i 0).val, ht⟩) ((eq_ix4 y).trans (congrArg (fun z => ix4 z (y 1) (y 2) (y 3))
      (Subsingleton.elim (α := Fin 1) (y 0) 0)))).trans ?_
    exact blk0 m c ⟨(i 0).val, ht⟩ (i 0) rfl (y 1) (y 2) (y 3)
  have b1 : iblk m c 1 ⟨(i 0).val, ht⟩ = row640 (m ((c : Thread nD τ).loc main_arg1)) := by
    funext y
    refine (congrArg (iblk m c 1 ⟨(i 0).val, ht⟩) ((eq_ix2 y).trans (congrArg (fun z => ix2 z (y 1))
      (Subsingleton.elim (α := Fin 1) (y 0) 0)))).trans ?_
    exact blk1 m c _ (y 1)
  have b2 : iblk m c 2 ⟨(i 0).val, ht⟩ = m ((c : Thread nD τ).loc main_arg2) := by
    funext y
    have e := blk2 m c ⟨(i 0).val, ht⟩ (y 0) (y 1) (y 2) (y 3)
    have ey := eq_ix4 y
    exact (congrArg _ ey).trans (e.trans (congrArg (m ((c : Thread nD τ).loc main_arg2)) ey.symm))
  have b3 : iblk m c 3 ⟨(i 0).val, ht⟩ = row384 (m ((c : Thread nD τ).loc main_arg3)) := by
    funext y
    refine (congrArg (iblk m c 3 ⟨(i 0).val, ht⟩) ((eq_ix2 y).trans (congrArg (fun z => ix2 z (y 1))
      (Subsingleton.elim (α := Fin 1) (y 0) 0)))).trans ?_
    exact blk3 m c _ (y 1)
  have b4 : iblk m c 4 ⟨(i 0).val, ht⟩ = row384 (m ((c : Thread nD τ).loc main_arg4)) := by
    funext y
    refine (congrArg (iblk m c 4 ⟨(i 0).val, ht⟩) ((eq_ix2 y).trans (congrArg (fun z => ix2 z (y 1))
      (Subsingleton.elim (α := Fin 1) (y 0) 0)))).trans ?_
    exact blk4 m c _ (y 1)
  rw [b0, b1, b2, b3, b4]
  have l1 : loc5Of i 1 = i 1 := Fin.ext (Nat.mod_eq_of_lt h1)
  have l2 : loc5Of i 2 = i 2 := Fin.ext (Nat.mod_eq_of_lt h2)
  have l3 : loc5Of i 3 = i 3 := Fin.ext (Nat.mod_eq_of_lt h3)
  have l4 : loc5Of i 4 = i 4 := Fin.ext (Nat.mod_eq_of_lt h4)
  show yS _ _ _ _ _ (loc5Of i 1) (loc5Of i 2) (loc5Of i 3) (loc5Of i 4) = yS _ _ _ _ _ (i 1) (i 2) (i 3) (i 4)
  rw [l1, l2, l3, l4]

end Cert.KernelIdeal.Body

end
-- ==== Proof.RefValue.lean ====
module

public import proofs.«01_k».proof.Proof.Gen.ReferenceIdeal.Read
public import Idealize.ShloMosaic.Lib.Pointwise
public import Idealize.ShloMosaic.Lib.ValueIdxRank6

/-! The reference's host operations read at an index: each parity of output row and column is a 2 × 2 convolution of the zero-padded
decoded activations with every second row and column of the decoded weights, scaled, shifted, and interleaved with the other
parities. -/

@[expose] public section

set_option maxRecDepth 16384

noncomputable section

namespace Cert.ReferenceIdeal.Body

open Idealize.ShloMosaic Idealize.ShloMosaic.TcCoe Idealize.SL.Sem Cert.ReferenceIdeal.Gen Idealize.ShloMosaic.Pointwise Cert.ReferenceIdeal.Read

/-- Decoded activations with a zero border on every side: row `R` and column `q` of the bordered image. -/
def rp (r0 : S7x14x18x640.Idx → EReal) (n : Fin 7) (R q : ℕ) (k : Fin 640) : EReal :=
  if h : (1 ≤ R ∧ R ≤ 14) ∧ (1 ≤ q ∧ q ≤ 18) then
    r0 (ix4 n ⟨R - 1, by omega⟩ ⟨q - 1, by omega⟩ k)
  else 0

/-- The tap a parity `p` uses at step `i`. -/
def kt (p i : Fin 2) : Fin 4 := ⟨3 - p.val - 2 * i.val, by omega⟩

/-- One tap of the convolution. -/
def rt (r0 : S7x14x18x640.Idx → EReal) (r1 : S4x4x640x384.Idx → EReal) (n : Fin 7) (R q : ℕ) (a b : Fin 4) (o : Fin 384) : EReal :=
  ∑ k : Fin 640, rp r0 n R q k * r1 (ix4 a b k o)

/-- One output: four taps, scale and bias. -/
def rq (r0 : S7x14x18x640.Idx → EReal) (r1 : S4x4x640x384.Idx → EReal) (x3 x4 : S384.Idx → EReal) (py px : Fin 2)
    (n : Fin 7) (m : Fin 14) (u : Fin 18) (o : Fin 384) : EReal :=
  ((((0 + rt r0 r1 n (py.val + m.val) (px.val + u.val) (kt py 0) (kt px 0) o)
      + rt r0 r1 n (py.val + m.val) (px.val + (1 + u.val)) (kt py 0) (kt px 1) o)
      + rt r0 r1 n (py.val + (1 + m.val)) (px.val + u.val) (kt py 1) (kt px 0) o)
      + rt r0 r1 n (py.val + (1 + m.val)) (px.val + (1 + u.val)) (kt py 1) (kt px 1) o) * x3 (ix1 o) + x4 (ix1 o)

/-- The reference's operations for one parity, over its padded activations and its selected weights. -/
def quad (P : FVec Ideal S7x15x19x640 .bf16) (W : FVec Ideal S2x2x640x384 .bf16) (x3 x4 : FVec Ideal S384 .f32) :
    FVec Ideal S7x14x18x384 .bf16 :=
  truncf .bf16 (addf (mulf
    (addf (addf (addf (addf (broadcastInDim S7x14x18x384 ![] bcast_S_S7x14x18x384 (constant S_ .f32 0x00000000#32 : FVec Ideal S_ .f32))
      (Host.dotGeneral dot_S7x14x18x640_S640x384_S7x14x18x384_3_0_012_1_n_n none
        (extractStridedSlice S7x14x18x640 ![0, 0, 0, 0] P slices_S7x15x19x640_S7x14x18x640_0_0_0_0)
        (shapeCast S640x384 (extractStridedSlice S1x1x640x384 ![0, 0, 0, 0] W slices_S2x2x640x384_S1x1x640x384_0_0_0_0) shapeCasts_S1x1x640x384_S640x384)))
      (Host.dotGeneral dot_S7x14x18x640_S640x384_S7x14x18x384_3_0_012_1_n_n none
        (extractStridedSlice S7x14x18x640 ![0, 0, 1, 0] P slices_S7x15x19x640_S7x14x18x640_0_0_1_0)
        (shapeCast S640x384 (extractStridedSlice S1x1x640x384 ![0, 1, 0, 0] W slices_S2x2x640x384_S1x1x640x384_0_1_0_0) shapeCasts_S1x1x640x384_S640x384)))
      (Host.dotGeneral dot_S7x14x18x640_S640x384_S7x14x18x384_3_0_012_1_n_n none
        (extractStridedSlice S7x14x18x640 ![0, 1, 0, 0] P slices_S7x15x19x640_S7x14x18x640_0_1_0_0)
        (shapeCast S640x384 (extractStridedSlice S1x1x640x384 ![1, 0, 0, 0] W slices_S2x2x640x384_S1x1x640x384_1_0_0_0) shapeCasts_S1x1x640x384_S640x384)))
      (Host.dotGeneral dot_S7x14x18x640_S640x384_S7x14x18x384_3_0_012_1_n_n none
        (extractStridedSlice S7x14x18x640 ![0, 1, 1, 0] P slices_S7x15x19x640_S7x14x18x640_0_1_1_0)
        (shapeCast S640x384 (extractStridedSlice S1x1x640x384 ![1, 1, 0, 0] W slices_S2x2x640x384_S1x1x640x384_1_1_0_0) shapeCasts_S1x1x640x384_S640x384)))
    (broadcastInDim S7x14x18x384 ![0, 1, 2, 3] bcast_S1x1x1x384_S7x14x18x384_0_1_2_3 (broadcastInDim S1x1x1x384 ![3] bcast_S384_S1x1x1x384_3 x3)))
    (broadcastInDim S7x14x18x384 ![0, 1, 2, 3] bcast_S1x1x1x384_S7x14x18x384_0_1_2_3 (broadcastInDim S1x1x1x384 ![3] bcast_S384_S1x1x1x384_3 x4)))
    bitsLt_bf16_f32

/-- One parity's operations at an index. -/
theorem quad_apply (P : FVec Ideal S7x15x19x640 .bf16) (W : FVec Ideal S2x2x640x384 .bf16) (x3 x4 : FVec Ideal S384 .f32)
    (n : Fin 7) (m : Fin 14) (u : Fin 18) (o : Fin 384) :
    quad P W x3 x4 (ix4 n m u o)
      = ((((0 + ∑ k : Fin 640, P (ix4 n ⟨m.val, by omega⟩ ⟨u.val, by omega⟩ k) * W (ix4 0 0 k o))
          + ∑ k : Fin 640, P (ix4 n ⟨m.val, by omega⟩ ⟨1 + u.val, by omega⟩ k) * W (ix4 0 1 k o))
          + ∑ k : Fin 640, P (ix4 n ⟨1 + m.val, by omega⟩ ⟨u.val, by omega⟩ k) * W (ix4 1 0 k o))
          + ∑ k : Fin 640, P (ix4 n ⟨1 + m.val, by omega⟩ ⟨1 + u.val, by omega⟩ k) * W (ix4 1 1 k o)) * x3 (ix1 o) + x4 (ix1 o) := by
  pointwise [quad]

/-- One parity's operations from what its padded activations and selected weights are. -/
theorem quad_spec (P : FVec Ideal S7x15x19x640 .bf16) (W : FVec Ideal S2x2x640x384 .bf16) (x3 x4 : FVec Ideal S384 .f32)
    (r0 : S7x14x18x640.Idx → EReal) (r1 : S4x4x640x384.Idx → EReal) (py px : Fin 2)
    (hP : ∀ n (h : Fin 15) (w : Fin 19) k, P (ix4 n h w k) = rp r0 n (py.val + h.val) (px.val + w.val) k)
    (hW : ∀ (a b : Fin 2) k o, W (ix4 a b k o) = r1 (ix4 (kt py a) (kt px b) k o))
    (n : Fin 7) (m : Fin 14) (u : Fin 18) (o : Fin 384) :
    quad P W x3 x4 (ix4 n m u o) = rq r0 r1 x3 x4 py px n m u o := by
  rw [quad_apply]
  simp only [hP, hW]
  rfl

variable (x3 x4 : FVec Ideal S384 .f32) (r0 : FVec Ideal S7x14x18x640 .bf16) (r1 : FVec Ideal S4x4x640x384 .bf16)

/-- The padding value. -/
theorem padv : (FloatOps.sitofp (F := Idealize.ShloMosaic.Ideal) FTy.bf16 (0#32 : BitVec 32) : EReal) = 0 := by
  show ((((0#32 : BitVec 32).toInt : ℤ) : ℝ) : EReal) = 0
  simp

/-- Indices of bordered and unbordered images that differ by the border only. -/
theorem ix_eq (n : Fin 7) (a a' : Fin 14) (b b' : Fin 18) (k : Fin 640) (ha : a.val = a'.val) (hb : b.val = b'.val) :
    r0 (ix4 n a b k) = r0 (ix4 n a' b' k) := by
  rw [Fin.ext ha, Fin.ext hb]

/-- The padded activations of each parity: even rows, even columns. -/
theorem v4_apply (n : Fin 7) (h : Fin 15) (w : Fin 19) (k : Fin 640) :
    val_main_v4 (F := Ideal) r0 (ix4 n h w k) = rp r0 n ((0 : Fin 2).val + h.val) ((0 : Fin 2).val + w.val) k := by
  pointwise [val_main_v4, val_main_call0_v0, val_main_c, rp]
  split_ifs <;> first | (exfalso; omega) | exact padv | (apply ix_eq <;> simp)

/-- Even rows, odd columns. -/
theorem v35_apply (n : Fin 7) (h : Fin 15) (w : Fin 19) (k : Fin 640) :
    val_main_v35 (F := Ideal) r0 (ix4 n h w k) = rp r0 n ((0 : Fin 2).val + h.val) ((1 : Fin 2).val + w.val) k := by
  pointwise [val_main_v35, val_main_call1_v0, val_main_c_0, rp]
  split_ifs <;> first | (exfalso; omega) | exact padv | (apply ix_eq <;> simp)

/-- Odd rows, even columns. -/
theorem v69_apply (n : Fin 7) (h : Fin 15) (w : Fin 19) (k : Fin 640) :
    val_main_v69 (F := Ideal) r0 (ix4 n h w k) = rp r0 n ((1 : Fin 2).val + h.val) ((0 : Fin 2).val + w.val) k := by
  pointwise [val_main_v69, val_main_call2_v0, val_main_c_2, rp]
  split_ifs <;> first | (exfalso; omega) | exact padv | (apply ix_eq <;> simp)

/-- Odd rows, odd columns. -/
theorem v100_apply (n : Fin 7) (h : Fin 15) (w : Fin 19) (k : Fin 640) :
    val_main_v100 (F := Ideal) r0 (ix4 n h w k) = rp r0 n ((1 : Fin 2).val + h.val) ((1 : Fin 2).val + w.val) k := by
  pointwise [val_main_v100, val_main_call3_v0, val_main_c_4, rp]
  split_ifs <;> first | (exfalso; omega) | exact padv | (apply ix_eq <;> simp)

/-- A reversed pair of axes reads the mirrored position on them. -/
theorem rev_apply (W : FVec Ideal S2x2x640x384 .bf16) (a b : Fin 2) (k : Fin 640) (o : Fin 384) :
    Host.reverse [0, 1] W (ix4 a b k o) = W (ix4 a.rev b.rev k o) := by
  refine congrArg W (funext fun d => ?_)
  match d with
  | ⟨0, _⟩ => rfl
  | ⟨1, _⟩ => rfl
  | ⟨2, _⟩ => rfl
  | ⟨3, _⟩ => rfl

/-- Weight indices with the same taps. -/
theorem wx_eq (a a' b b' : Fin 4) (k : Fin 640) (o : Fin 384) (ha : a.val = a'.val) (hb : b.val = b'.val) :
    r1 (ix4 a b k o) = r1 (ix4 a' b' k o) := by
  rw [Fin.ext ha, Fin.ext hb]

/-- The selected weights of each parity: even rows, even columns. -/
theorem v3_apply (a b : Fin 2) (k : Fin 640) (o : Fin 384) :
    val_main_v3 (F := Ideal) r1 (ix4 a b k o) = r1 (ix4 (kt 0 a) (kt 0 b) k o) := by
  refine (rev_apply _ a b k o).trans ?_
  pointwise [val_main_v2]
  apply wx_eq <;> simp [kt] <;> omega

/-- Even rows, odd columns. -/
theorem v34_apply (a b : Fin 2) (k : Fin 640) (o : Fin 384) :
    val_main_v34 (F := Ideal) r1 (ix4 a b k o) = r1 (ix4 (kt 0 a) (kt 1 b) k o) := by
  refine (rev_apply _ a b k o).trans ?_
  pointwise [val_main_v33]
  apply wx_eq <;> simp [kt] <;> omega

/-- Odd rows, even columns. -/
theorem v68_apply (a b : Fin 2) (k : Fin 640) (o : Fin 384) :
    val_main_v68 (F := Ideal) r1 (ix4 a b k o) = r1 (ix4 (kt 1 a) (kt 0 b) k o) := by
  refine (rev_apply _ a b k o).trans ?_
  pointwise [val_main_v67]
  apply wx_eq <;> simp [kt] <;> omega

/-- Odd rows, odd columns. -/
theorem v99_apply (a b : Fin 2) (k : Fin 640) (o : Fin 384) :
    val_main_v99 (F := Ideal) r1 (ix4 a b k o) = r1 (ix4 (kt 1 a) (kt 1 b) k o) := by
  refine (rev_apply _ a b k o).trans ?_
  pointwise [val_main_v98]
  apply wx_eq <;> simp [kt] <;> omega

/-- The four parities' results: even rows, even columns. -/
theorem v32_eq : val_main_v32 (F := Ideal) x3 x4 r0 r1 = quad (val_main_v4 (F := Ideal) r0) (val_main_v3 (F := Ideal) r1) x3 x4 := rfl
/-- Even rows, odd columns. -/
theorem v63_eq : val_main_v63 (F := Ideal) x3 x4 r0 r1 = quad (val_main_v35 (F := Ideal) r0) (val_main_v34 (F := Ideal) r1) x3 x4 := rfl
/-- Odd rows, even columns. -/
theorem v97_eq : val_main_v97 (F := Ideal) x3 x4 r0 r1 = quad (val_main_v69 (F := Ideal) r0) (val_main_v68 (F := Ideal) r1) x3 x4 := rfl
/-- Odd rows, odd columns. -/
theorem v128_eq : val_main_v128 (F := Ideal) x3 x4 r0 r1 = quad (val_main_v100 (F := Ideal) r0) (val_main_v99 (F := Ideal) r1) x3 x4 := rfl

/-- Even rows, even columns, at an index. -/
theorem v32_apply (n : Fin 7) (m : Fin 14) (u : Fin 18) (o : Fin 384) :
    val_main_v32 (F := Ideal) x3 x4 r0 r1 (ix4 n m u o) = rq r0 r1 x3 x4 0 0 n m u o := by
  rw [v32_eq]; exact quad_spec _ _ x3 x4 r0 r1 0 0 (v4_apply r0) (v3_apply r1) n m u o
/-- Even rows, odd columns, at an index. -/
theorem v63_apply (n : Fin 7) (m : Fin 14) (u : Fin 18) (o : Fin 384) :
    val_main_v63 (F := Ideal) x3 x4 r0 r1 (ix4 n m u o) = rq r0 r1 x3 x4 0 1 n m u o := by
  rw [v63_eq]; exact quad_spec _ _ x3 x4 r0 r1 0 1 (v35_apply r0) (v34_apply r1) n m u o
/-- Odd rows, even columns, at an index. -/
theorem v97_apply (n : Fin 7) (m : Fin 14) (u : Fin 18) (o : Fin 384) :
    val_main_v97 (F := Ideal) x3 x4 r0 r1 (ix4 n m u o) = rq r0 r1 x3 x4 1 0 n m u o := by
  rw [v97_eq]; exact quad_spec _ _ x3 x4 r0 r1 1 0 (v69_apply r0) (v68_apply r1) n m u o
/-- Odd rows, odd columns, at an index. -/
theorem v128_apply (n : Fin 7) (m : Fin 14) (u : Fin 18) (o : Fin 384) :
    val_main_v128 (F := Ideal) x3 x4 r0 r1 (ix4 n m u o) = rq r0 r1 x3 x4 1 1 n m u o := by
  rw [v128_eq]; exact quad_spec _ _ x3 x4 r0 r1 1 1 (v100_apply r0) (v99_apply r1) n m u o

/-- Two arrays interleaved along a new axis before the last. -/
def inter (A B : FVec Ideal S7x14x18x384 .bf16) : FVec Ideal S7x14x18x2x384 .bf16 :=
  concatenate S7x14x18x2x384 3 [⟨S7x14x18x1x384, broadcastInDim S7x14x18x1x384 ![0, 1, 2, 4] bcast_S7x14x18x384_S7x14x18x1x384_0_1_2_4 A⟩,
    ⟨S7x14x18x1x384, broadcastInDim S7x14x18x1x384 ![0, 1, 2, 4] bcast_S7x14x18x384_S7x14x18x1x384_0_1_2_4 B⟩]
    concatenates_S7x14x18x1x384_S7x14x18x1x384_S7x14x18x2x384_d3

/-- The interleaved array at an index. -/
theorem inter_apply (A B : FVec Ideal S7x14x18x384 .bf16) (n : Fin 7) (m : Fin 14) (u : Fin 18) (p : Fin 2) (o : Fin 384) :
    inter A B (ix5 n m u p o) = if p.val < 1 then A (ix4 n m u o) else B (ix4 n m u o) := by
  pointwise [inter]
  split_ifs <;> rfl

/-- An even row of results: both column parities. -/
theorem v66_apply (n : Fin 7) (m : Fin 14) (u : Fin 18) (p : Fin 2) (o : Fin 384) :
    val_main_v66 (F := Ideal) x3 x4 r0 r1 (ix5 n m u p o) = rq r0 r1 x3 x4 0 p n m u o := by
  refine (inter_apply (val_main_v32 (F := Ideal) x3 x4 r0 r1) (val_main_v63 (F := Ideal) x3 x4 r0 r1) n m u p o).trans ?_
  rw [v32_apply, v63_apply]
  match p with
  | ⟨0, _⟩ => rfl
  | ⟨1, _⟩ => rfl
/-- An odd row of results. -/
theorem v131_apply (n : Fin 7) (m : Fin 14) (u : Fin 18) (p : Fin 2) (o : Fin 384) :
    val_main_v131 (F := Ideal) x3 x4 r0 r1 (ix5 n m u p o) = rq r0 r1 x3 x4 1 p n m u o := by
  refine (inter_apply (val_main_v97 (F := Ideal) x3 x4 r0 r1) (val_main_v128 (F := Ideal) x3 x4 r0 r1) n m u p o).trans ?_
  rw [v97_apply, v128_apply]
  match p with
  | ⟨0, _⟩ => rfl
  | ⟨1, _⟩ => rfl

/-- Rows of results: both row parities. -/
theorem v134_apply (n : Fin 7) (m : Fin 14) (py : Fin 2) (u : Fin 18) (px : Fin 2) (o : Fin 384) :
    val_main_v134 (F := Ideal) x3 x4 r0 r1 (ValueIdx.ix6 n m py u px o) = rq r0 r1 x3 x4 py px n m u o := by
  unfold val_main_v134
  match py with
  | ⟨0, _⟩ =>
    refine (concatenate_pair_apply_left (t := S7x14x2x18x2x384) 2 (val_main_v132 (F := Ideal) x3 x4 r0 r1) (val_main_v133 (F := Ideal) x3 x4 r0 r1)
      concatenates_S7x14x1x18x2x384_S7x14x1x18x2x384_S7x14x2x18x2x384_d2 _ rfl (ValueIdx.ix6 n m 0 u px o) ?_).trans ?_
    · intro b
      fin_cases b <;> rfl
    · rw [val_main_v132_apply]
      refine (congrArg _ (eq_ix5 _)).trans (v66_apply x3 x4 r0 r1 n m u px o)
  | ⟨1, _⟩ =>
    refine (concatenate_pair_apply_right (t := S7x14x2x18x2x384) 2 (val_main_v132 (F := Ideal) x3 x4 r0 r1) (val_main_v133 (F := Ideal) x3 x4 r0 r1)
      concatenates_S7x14x1x18x2x384_S7x14x1x18x2x384_S7x14x2x18x2x384_d2 _ rfl rfl (ValueIdx.ix6 n m 0 u px o) ?_ ?_).trans ?_
    · intro b hb
      fin_cases b <;> first | rfl | exact absurd rfl hb
    · rfl
    · rw [val_main_v133_apply]
      refine (congrArg _ (eq_ix5 _)).trans (v131_apply x3 x4 r0 r1 n m u px o)

/-- The reference's result at an index. -/
theorem v135_apply (n : Fin 7) (m : Fin 14) (py : Fin 2) (w : Fin 36) (o : Fin 384) :
    val_main_v135 (F := Ideal) x3 x4 r0 r1 (ix5 n m py w o)
      = rq r0 r1 x3 x4 py ⟨w.val % 2, by omega⟩ n m ⟨w.val / 2, by omega⟩ o := by
  rw [← v134_apply]
  refine shapeCast_apply _ _ _ _ ?_
  rw [Shape.rowMajor_val_six, Shape.rowMajor_val_five]
  show ((((n.val * 14 + m.val) * 2 + py.val) * 18 + w.val / 2) * 2 + w.val % 2) * 384 + o.val
    = (((n.val * 14 + m.val) * 2 + py.val) * 36 + w.val) * 384 + o.val
  omega

end Cert.ReferenceIdeal.Body

end
-- ==== Proof.RefRegion.lean ====
module

public import proofs.«01_k».proof.Proof.Gen.ReferenceIdeal.Run
public import Idealize.ShloMosaic.Lib.Pointwise
public import Idealize.ShloMosaic.Lib.Pipeline.ValueKit

/-! What the reference's decoding step leaves: the activations times their scales, and the weights. -/

@[expose] public section

set_option maxRecDepth 16384

noncomputable section

namespace Cert.ReferenceIdeal.Body

open Idealize.ShloMosaic Idealize.ShloMosaic.TcCoe Idealize.SL.Sem Cert.ReferenceIdeal.Gen Idealize.ShloMosaic.Pointwise

variable (m : (ℓ : Loc nD τ sig) → Buf (Elt Ideal) ℓ)

/-- The activation block is the activations. -/
theorem iblk0 (c : Dev nD) (t : Fin cfg0.N) (n : Fin 7) (h : Fin 14) (w : Fin 18) (k : Fin 640) :
    iblk m c 0 t (ix4 n h w k) = m ((c.tc : Thread nD τ).loc main_arg0) (ix4 n h w k) := by
  refine (congrFun (V_main_arg0 m c) _).trans (congrArg (m ((c.tc : Thread nD τ).loc main_arg0)) ?_)
  funext b
  refine Fin.ext ?_
  match b with
  | ⟨0, _⟩ => show 0 * 7 + 1 * n.val = n.val; omega
  | ⟨1, _⟩ => show 0 * 14 + 1 * h.val = h.val; omega
  | ⟨2, _⟩ => show 0 * 18 + 1 * w.val = w.val; omega
  | ⟨3, _⟩ => show 0 * 640 + 1 * k.val = k.val; omega

/-- The scale block is the scales. -/
theorem iblk1 (c : Dev nD) (t : Fin cfg0.N) (k : Fin 640) :
    iblk m c 1 t (ix4 0 0 0 k) = m ((c.tc : Thread nD τ).loc main_arg1) (ix1 k) := by
  have e : V m c main_v0 = shapeCast S1x1x1x640 (m ((c.tc : Thread nD τ).loc main_arg1)) shapeCasts_S640_S1x1x1x640 := by
    show StableHlo.after hostOps0 _ _ = _
    after_results
    rfl
  refine ((congrFun e _).trans (congrArg _ (funext fun b => Fin.ext ?_ : _ = ix4 0 0 0 k))).trans ?_
  · match b with
    | ⟨0, _⟩ => rfl
    | ⟨1, _⟩ => rfl
    | ⟨2, _⟩ => rfl
    | ⟨3, _⟩ => show 0 * 640 + 1 * k.val = k.val; omega
  · pointwise []

/-- The weight block is the weights. -/
theorem iblk2 (c : Dev nD) (t : Fin cfg0.N) (a b : Fin 4) (k : Fin 640) (o : Fin 384) :
    iblk m c 2 t (ix4 a b k o) = m ((c.tc : Thread nD τ).loc main_arg2) (ix4 a b k o) := by
  refine (congrFun (V_main_arg2 m c) _).trans (congrArg (m ((c.tc : Thread nD τ).loc main_arg2)) ?_)
  funext d
  refine Fin.ext ?_
  match d with
  | ⟨0, _⟩ => show 0 * 4 + 1 * a.val = a.val; omega
  | ⟨1, _⟩ => show 0 * 4 + 1 * b.val = b.val; omega
  | ⟨2, _⟩ => show 0 * 640 + 1 * k.val = k.val; omega
  | ⟨3, _⟩ => show 0 * 384 + 1 * o.val = o.val; omega

/-- The decoded activations. -/
def dec0 (A0 : S7x14x18x640.Idx → EReal) (A1 : S640.Idx → EReal) : S7x14x18x640.Idx → EReal := fun y => A0 y * A1 (ix1 (y 3))

/-- The decoding step's first output block. -/
theorem out3_apply (x0 : Vec Ideal S7x14x18x640 .fp8e4m3) (x1 : Vec Ideal S1x1x1x640 .f32) (x2 : Vec Ideal S4x4x640x384 .fp8e4m3)
    (n : Fin 7) (h : Fin 14) (w : Fin 18) (k : Fin 640) :
    out0_3 x0 x1 x2 (ix4 n h w k) = x0 (ix4 n h w k) * x1 (ix4 0 0 0 k) := by
  unfold out0_3
  rw [View.canon_cons_unit_lit' _ _ _ (by decide), View.ld_unit_lit' _ _ (by decide), View.ld_unit_lit' _ _ (by decide)]
  pointwise [k0_pay1]

/-- The decoding step's second output block. -/
theorem out4_apply (x0 : Vec Ideal S7x14x18x640 .fp8e4m3) (x1 : Vec Ideal S1x1x1x640 .f32) (x2 : Vec Ideal S4x4x640x384 .fp8e4m3)
    (a b : Fin 4) (k : Fin 640) (o : Fin 384) :
    out0_4 x0 x1 x2 (ix4 a b k o) = x2 (ix4 a b k o) := by
  unfold out0_4
  rw [View.canon_cons_unit_lit' _ _ _ (by decide), View.ld_unit_lit' _ _ (by decide)]
  pointwise [k0_pay2]

/-- Every index of the first output array lies in every point's block, at the same place. -/
theorem emb3 (t : Fin cfg0.N) (y : S7x14x18x640.Idx) : ((cfg0.win 3).blk t).view.emb y = y := by
  funext b
  refine Fin.ext ?_
  match b with
  | ⟨0, _⟩ => show 0 * 7 + 1 * (y 0).val = (y 0).val; omega
  | ⟨1, _⟩ => show 0 * 14 + 1 * (y 1).val = (y 1).val; omega
  | ⟨2, _⟩ => show 0 * 18 + 1 * (y 2).val = (y 2).val; omega
  | ⟨3, _⟩ => show 0 * 640 + 1 * (y 3).val = (y 3).val; omega

/-- The same of the second output array. -/
theorem emb4 (t : Fin cfg0.N) (y : S4x4x640x384.Idx) : ((cfg0.win 4).blk t).view.emb y = y := by
  funext b
  refine Fin.ext ?_
  match b with
  | ⟨0, _⟩ => show 0 * 4 + 1 * (y 0).val = (y 0).val; omega
  | ⟨1, _⟩ => show 0 * 4 + 1 * (y 1).val = (y 1).val; omega
  | ⟨2, _⟩ => show 0 * 640 + 1 * (y 2).val = (y 2).val; omega
  | ⟨3, _⟩ => show 0 * 384 + 1 * (y 3).val = (y 3).val; omega

/-- The decoded activations' array. -/
theorem reg0 (c : Dev nD) : Cert.ReferenceIdeal.Value.reg_main_v1_0 m c
    = dec0 (m ((c.tc : Thread nD τ).loc main_arg0)) (m ((c.tc : Thread nD τ).loc main_arg1)) := by
  refine (dats m 0 c).arrAt_eq_of_cover 3 _ (fun t hf => ?_) (fun i => ⟨(0 : Fin 1), flush0_3 _, ?_⟩)
  · show (cfg0.win 3).cut (grid0.coords t) ((dats m 0 c).after 3 t) = _
    rw [after0_3]
    funext y
    show out0_3 (iblk m c 0 t) (iblk m c 1 t) (iblk m c 2 t) y = dec0 _ _ (((cfg0.win 3).blk t).view.emb y)
    rw [emb3]
    exact (congrArg _ (eq_ix4 y)).trans ((out3_apply _ _ _ (y 0) (y 1) (y 2) (y 3)).trans
      ((congrArg₂ (fun a b : EReal => a * b) (iblk0 m c t (y 0) (y 1) (y 2) (y 3)) (iblk1 m c t (y 3))).trans (by rw [← eq_ix4 y]; rfl)))
  · exact Finset.mem_map.mpr ⟨i, Finset.mem_univ _, emb3 _ i⟩

/-- The decoded weights' array. -/
theorem reg1 (c : Dev nD) : Cert.ReferenceIdeal.Value.reg_main_v1_1 m c = m ((c.tc : Thread nD τ).loc main_arg2) := by
  refine (dats m 0 c).arrAt_eq_of_cover 4 _ (fun t hf => ?_) (fun i => ⟨(0 : Fin 1), flush0_4 _, ?_⟩)
  · show (cfg0.win 4).cut (grid0.coords t) ((dats m 0 c).after 4 t) = _
    rw [after0_4]
    funext y
    show out0_4 (iblk m c 0 t) (iblk m c 1 t) (iblk m c 2 t) y = m ((c.tc : Thread nD τ).loc main_arg2) (((cfg0.win 4).blk t).view.emb y)
    rw [emb4]
    exact (congrArg _ (eq_ix4 y)).trans ((out4_apply _ _ _ (y 0) (y 1) (y 2) (y 3)).trans
      ((iblk2 m c t (y 0) (y 1) (y 2) (y 3)).trans (congrArg _ (eq_ix4 y).symm)))
  · exact Finset.mem_map.mpr ⟨i, Finset.mem_univ _, emb4 _ i⟩

end Cert.ReferenceIdeal.Body

end
-- ==== Proof.Algebraic.lean ====
module

public import proofs.«01_k».proof.Defs
public import proofs.«01_k».proof.Proof.KernelValue
public import proofs.«01_k».proof.Proof.RefValue
public import proofs.«01_k».proof.Proof.RefRegion

/-! The kernel and the reference compute the same array over exact arithmetic: both are four taps of the same convolution, added in
different orders. -/

@[expose] public section

set_option maxRecDepth 16384

noncomputable section

namespace Cert.Proof

open Idealize.ShloMosaic Idealize.ShloMosaic.TcCoe Idealize.SL.Sem Idealize.ShloMosaic.Pointwise
open Cert.KernelIdeal.Body (padx tap yS img row640 row384 result G5_eq)
open Cert.ReferenceIdeal.Body (rp rt rq kt dec0)

variable (A0 : Cert.KernelIdeal.S7x14x18x640.Idx → EReal) (A1 : Cert.KernelIdeal.S640.Idx → EReal)
  (A2 : Cert.KernelIdeal.S4x4x640x384.Idx → EReal) (A3 A4 : Cert.KernelIdeal.S384.Idx → EReal)

/-- The two bordered images agree. -/
theorem rp_eq (n : Fin 7) (R q : ℕ) (k : Fin 640) : rp (dec0 A0 A1) n R q k = padx (img A0 n) (row640 A1) R q k.val := by
  unfold rp padx
  by_cases h : (1 ≤ R ∧ R ≤ 14) ∧ (1 ≤ q ∧ q ≤ 18)
  · rw [dif_pos h, dif_pos ⟨h, k.isLt⟩]
    rfl
  · rw [dif_neg h, dif_neg fun h' => h h'.1]

/-- The two taps agree. -/
theorem rt_eq (n : Fin 7) (R q : ℕ) (a b : Fin 4) (o : Fin 384) :
    rt (dec0 A0 A1) A2 n R q a b o = tap (img A0 n) (row640 A1) A2 R q a b o :=
  Finset.sum_congr rfl fun k _ => by rw [rp_eq]

/-- Four terms added one by one, or by pairs. -/
theorem sum_cols (a b c d : EReal) : a + b + c + d = (a + c) + (b + d) := by
  rw [add_right_comm a b c, add_assoc]

/-- The two outputs agree. -/
theorem rq_eq (n : Fin 7) (m : Fin 14) (py : Fin 2) (w : Fin 36) (o : Fin 384) :
    rq (dec0 A0 A1) A2 A3 A4 py ⟨w.val % 2, by omega⟩ n m ⟨w.val / 2, by omega⟩ o
      = yS (img A0 n) (row640 A1) A2 (row384 A3) (row384 A4) m py w o := by
  have h2 : w.val % 2 < 2 := Nat.mod_lt _ (by decide)
  unfold yS
  split_ifs with h
  · rw [show (⟨w.val % 2, h2⟩ : Fin 2) = 0 from Fin.ext h]
    unfold rq
    simp only [rt_eq]
    rw [show (0 : Fin 2).val + w.val / 2 = w.val / 2 from Nat.zero_add _,
      show (0 : Fin 2).val + (1 + w.val / 2) = w.val / 2 + 1 from (Nat.zero_add _).trans (Nat.add_comm _ _),
      show py.val + (1 + m.val) = py.val + 1 + m.val from (Nat.add_assoc _ _ _).symm, zero_add]
    refine congrArg₂ (· + ·) (congrArg₂ (· * ·) ?_ rfl) rfl
    exact sum_cols _ _ _ _
  · rw [show (⟨w.val % 2, h2⟩ : Fin 2) = 1 from Fin.ext (by show w.val % 2 = 1; omega)]
    unfold rq
    simp only [rt_eq]
    rw [show (1 : Fin 2).val + w.val / 2 = w.val / 2 + 1 from Nat.add_comm _ _,
      show (1 : Fin 2).val + (1 + w.val / 2) = w.val / 2 + 2 from (by show 1 + (1 + w.val / 2) = _; omega),
      show py.val + (1 + m.val) = py.val + 1 + m.val from (Nat.add_assoc _ _ _).symm, zero_add]
    refine congrArg₂ (· + ·) (congrArg₂ (· * ·) ?_ rfl) rfl
    exact (sum_cols _ _ _ _).trans (add_comm _ _)

/-- The reference's result array is `result` of its arguments. -/
theorem ref_eq (m : (ℓ : Loc Cert.ReferenceIdeal.nD Cert.ReferenceIdeal.τ Cert.ReferenceIdeal.sig) → Buf (Elt Ideal) ℓ)
    (c : Dev Cert.ReferenceIdeal.nD) :
    Cert.ReferenceIdeal.Read.val_main_v135 (F := Ideal)
        (Cert.ReferenceIdeal.Value.exitV m c (Proc.devRef .tc Cert.ReferenceIdeal.main_arg3))
        (Cert.ReferenceIdeal.Value.exitV m c (Proc.devRef .tc Cert.ReferenceIdeal.main_arg4))
        (Cert.ReferenceIdeal.Value.exitV m c (Proc.devRef .tc Cert.ReferenceIdeal.main_v1_0))
        (Cert.ReferenceIdeal.Value.exitV m c (Proc.devRef .tc Cert.ReferenceIdeal.main_v1_1))
      = result (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg4)) := by
  rw [Cert.ReferenceIdeal.Value.exit_main_arg3, Cert.ReferenceIdeal.Value.exit_main_arg4, Cert.ReferenceIdeal.Value.exit_main_v1_0,
    Cert.ReferenceIdeal.Value.exit_main_v1_1, Cert.ReferenceIdeal.Body.reg0, Cert.ReferenceIdeal.Body.reg1]
  funext i
  exact (congrArg _ (eq_ix5 i)).trans ((Cert.ReferenceIdeal.Body.v135_apply _ _ _ _ (i 0) (i 1) (i 2) (i 3) (i 4)).trans
    (rq_eq _ _ _ _ _ (i 0) (i 1) (i 2) (i 3) (i 4)))

/-- From equal arguments, both programs end with the same result, as extended reals. -/
theorem algebraic : @Cert.algebraic_KernelIdeal_ReferenceIdeal Cert.KernelIdeal.Gen.facts Cert.ReferenceIdeal.Gen.facts := by
  intro m g m' g' _ hm
  refine ⟨fun c => Cert.KernelIdeal.Value.G5 m c, Cert.KernelIdeal.Value.run m g, ?_⟩
  refine (θ_run Cert.ReferenceIdeal.defs _ _).mono (fun r h c => ⟨?_, (h c).2⟩) (Cert.ReferenceIdeal.Value.run m' g')
  obtain ⟨e0, e1, e2, e3, e4⟩ := hm c
  refine (h c).1.trans ((Cert.ReferenceIdeal.Read.val_main_v135_eq _).trans ((ref_eq m' c).trans ?_))
  rw [e0, e1, e2, e3, e4]
  exact (G5_eq m c).symm

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Run
public import proofs.«01_k».proof.Proof.Gen.ReferenceIdeal.Read
public import proofs.«01_k».proof.Proof.Preserves
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The three frame runs, the idealized kernel's agreement with the kernel under the rewriting rules, and its equality with the
    reference over exact arithmetic. -/
theorem claim : Cert.Claim := ⟨Cert.Kernel.Gen.facts, Cert.KernelIdeal.Gen.facts, Cert.ReferenceIdeal.Gen.facts,
  fun m ρ _ => Cert.Kernel.Gen.frame m ρ,
  fun m ρ _ => Cert.KernelIdeal.Gen.frame m ρ,
  fun m ρ _ => Cert.ReferenceIdeal.Gen.frame m ρ,
  preserves, algebraic⟩

end Cert.Proof

end
